-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_inputs [hPre_graph_inputs : Cert.Pre_graph_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_inputs [hPre_graph_inputs : Cert.Pre_graph_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_graph_inputs [hKernelIdeal : Cert.KernelIdeal.Facts] [hPre_graph_inputs : Cert.Pre_graph_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_graph_inputs [hReferenceIdeal : Cert.ReferenceIdeal.Facts] [hPre_graph_inputs : Cert.Pre_graph_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_graph_inputs [hKernelIdeal : Cert.KernelIdeal.Facts] [hReferenceIdeal : Cert.ReferenceIdeal.Facts] [hPre_graph_inputs : Cert.Pre_graph_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_graph_inputs : Cert.Pre_graph_inputs.Facts),
    quiescent_Kernel (hKernel := hKernel)
    ∧ quiescent_KernelIdeal (hKernelIdeal := hKernelIdeal)
    ∧ quiescent_KernelIdeal_pre_graph_inputs (hKernelIdeal := hKernelIdeal) (hPre_graph_inputs := hPre_graph_inputs)
    ∧ quiescent_ReferenceIdeal (hReferenceIdeal := hReferenceIdeal)
    ∧ quiescent_ReferenceIdeal_pre_graph_inputs (hReferenceIdeal := hReferenceIdeal) (hPre_graph_inputs := hPre_graph_inputs)
    ∧ preserves_Kernel_KernelIdeal
    ∧ algebraic_KernelIdeal_ReferenceIdeal_pre_graph_inputs (hKernelIdeal := hKernelIdeal) (hReferenceIdeal := hReferenceIdeal) (hPre_graph_inputs := hPre_graph_inputs)
-- ==== Pre_graph_inputs.lean ====
abbrev S2x4096x17 : Shape := ⟨3, ![2, 4096, 17]⟩
abbrev S4096x4096 : Shape := ⟨2, ![4096, 4096]⟩
abbrev S16x17 : Shape := ⟨2, ![16, 17]⟩
abbrev S16 : Shape := ⟨1, ![16]⟩
abbrev S16x16 : Shape := ⟨2, ![16, 16]⟩
abbrev S16x1 : Shape := ⟨2, ![16, 1]⟩
abbrev S_ : Shape := ⟨0, ![]⟩

class Facts : Prop where
  bcast_S_S4096x4096 : S_.BroadcastsInDim S4096x4096 (![] : Fin 0 → Fin S4096x4096.rank)
  bcast_S_S16 : S_.BroadcastsInDim S16 (![] : Fin 0 → Fin S16.rank)

variable [Facts]

def fn {F : FTy → Type} [FloatOps F] (main_arg0 : FVec F S2x4096x17 .f32) (main_arg1 : FVec F S4096x4096 .f32) (main_arg2 : FVec F S4096x4096 .f32) (main_arg3 : FVec F S16x17 .f32) (main_arg4 : FVec F S16 .f32) (main_arg5 : FVec F S16x16 .f32) (main_arg6 : FVec F S16 .f32) (main_arg7 : FVec F S16x16 .f32) (main_arg8 : FVec F S16 .f32) (main_arg9 : FVec F S16x1 .f32) (main_arg10 : FVec F S16 .f32) : IVec S4096x4096 1 × IVec S16 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oeq main_arg1 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .oeq main_arg1 main_v2
  let main_v4 : IVec S4096x4096 1 := ori main_v1 main_v3
  let main_cst_1 : FVec F S_ .f32 := constant S_ .f32 0x00000000#32
  let main_v5 : FVec F S4096x4096 .f32 := broadcastInDim S4096x4096 ![] bcast_S_S4096x4096 main_cst_1
  let main_v6 : IVec S4096x4096 1 := cmpf .oge main_arg2 main_v5
  let main_v7 : IVec S4096x4096 1 := andi main_v4 main_v6
  let main_cst_2 : FVec F S_ .f32 := constant S_ .f32 0x7F800000#32
  let main_v8 : FVec F S4096x4096 .f32 := broadcastInDim S4096x4096 ![] bcast_S_S4096x4096 main_cst_2
  let main_v9 : IVec S4096x4096 1 := cmpf .olt main_arg2 main_v8
  let main_v10 : IVec S4096x4096 1 := andi main_v7 main_v9
  let main_cst_3 : FVec F S_ .f32 := constant S_ .f32 0x00000000#32
  let main_v11 : FVec F S16 .f32 := broadcastInDim S16 ![] bcast_S_S16 main_cst_3
  let main_v12 : IVec S16 1 := cmpf .oeq main_arg10 main_v11
  (main_v10, main_v12)
-- ==== Kernel.lean ====
abbrev S2x4096x17 : Shape := ⟨3, ![2, 4096, 17]⟩
abbrev S4096x4096 : Shape := ⟨2, ![4096, 4096]⟩
abbrev S16x17 : Shape := ⟨2, ![16, 17]⟩
abbrev S16 : Shape := ⟨1, ![16]⟩
abbrev S16x16 : Shape := ⟨2, ![16, 16]⟩
abbrev S16x1 : Shape := ⟨2, ![16, 1]⟩
abbrev S4096x2x17 : Shape := ⟨3, ![4096, 2, 17]⟩
abbrev S4096x34 : Shape := ⟨2, ![4096, 34]⟩
abbrev S17x16 : Shape := ⟨2, ![17, 16]⟩
abbrev S_ : Shape := ⟨0, ![]⟩
abbrev S34x32 : Shape := ⟨2, ![34, 32]⟩
abbrev S1 : Shape := ⟨1, ![1]⟩
abbrev S2 : Shape := ⟨1, ![2]⟩
abbrev S32x32 : Shape := ⟨2, ![32, 32]⟩
abbrev S1x16 : Shape := ⟨2, ![1, 16]⟩
abbrev S1x32 : Shape := ⟨2, ![1, 32]⟩
abbrev S32 : Shape := ⟨1, ![32]⟩
abbrev S4096x8 : Shape := ⟨2, ![4096, 8]⟩
abbrev S4096x32 : Shape := ⟨2, ![4096, 32]⟩
abbrev S512x4096 : Shape := ⟨2, ![512, 4096]⟩
abbrev S512x32 : Shape := ⟨2, ![512, 32]⟩
abbrev S8 : Shape := ⟨1, ![8]⟩
abbrev S512x8 : Shape := ⟨2, ![512, 8]⟩
abbrev S512x1 : Shape := ⟨2, ![512, 1]⟩
abbrev S512x34 : Shape := ⟨2, ![512, 34]⟩
abbrev S1x512x32 : Shape := ⟨3, ![1, 512, 32]⟩
abbrev S1x1x1 : Shape := ⟨3, ![1, 1, 1]⟩
abbrev S512x512 : Shape := ⟨2, ![512, 512]⟩
abbrev S4096x2x16 : Shape := ⟨3, ![4096, 2, 16]⟩
abbrev S2x4096x16 : Shape := ⟨3, ![2, 4096, 16]⟩

abbrev nBuf : Space → Nat
  | .hbm => 70
  | .vmem => 17
  | .smem => 2
  | _ => 0

abbrev bufTy : (tb : Table) → Fin (tcTables nBuf tb) → BufTy
  | .hbm, ⟨0, _⟩ => ⟨S2x4096x17, .f32⟩
  | .hbm, ⟨1, _⟩ => ⟨S4096x4096, .f32⟩
  | .hbm, ⟨2, _⟩ => ⟨S4096x4096, .f32⟩
  | .hbm, ⟨3, _⟩ => ⟨S16x17, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x1, .f32⟩
  | .hbm, ⟨10, _⟩ => ⟨S16, .f32⟩
  | .hbm, ⟨11, _⟩ => ⟨S4096x2x17, .f32⟩
  | .hbm, ⟨12, _⟩ => ⟨S4096x34, .f32⟩
  | .hbm, ⟨13, _⟩ => ⟨S17x16, .f32⟩
  | .hbm, ⟨14, _⟩ => ⟨S_, .f32⟩
  | .hbm, ⟨15, _⟩ => ⟨S34x32, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S34x32, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S34x32, .f32⟩
  | .hbm, ⟨28, _⟩ => ⟨S16x16, .f32⟩
  | .hbm, ⟨29, _⟩ => ⟨S_, .f32⟩
  | .hbm, ⟨30, _⟩ => ⟨S32x32, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S32x32, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S32x32, .f32⟩
  | .hbm, ⟨43, _⟩ => ⟨S16x16, .f32⟩
  | .hbm, ⟨44, _⟩ => ⟨S_, .f32⟩
  | .hbm, ⟨45, _⟩ => ⟨S32x32, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S32x32, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S32x32, .f32⟩
  | .hbm, ⟨58, _⟩ => ⟨S1x16, .f32⟩
  | .hbm, ⟨59, _⟩ => ⟨S1x16, .f32⟩
  | .hbm, ⟨60, _⟩ => ⟨S1x32, .f32⟩
  | .hbm, ⟨61, _⟩ => ⟨S16, .f32⟩
  | .hbm, ⟨62, _⟩ => ⟨S16, .f32⟩
  | .hbm, ⟨63, _⟩ => ⟨S32, .f32⟩
  | .hbm, ⟨64, _⟩ => ⟨S1x32, .f32⟩
  | .hbm, ⟨65, _⟩ => ⟨S_, .bf16⟩
  | .hbm, ⟨66, _⟩ => ⟨S4096x8, .bf16⟩
  | .hbm, ⟨67, _⟩ => ⟨S4096x32, .f32⟩
  | .hbm, ⟨68, _⟩ => ⟨S4096x2x16, .f32⟩
  | .hbm, ⟨69, _⟩ => ⟨S2x4096x16, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x8, .bf16⟩
  | .local _ .vmem, ⟨5, _⟩ => ⟨S4096x34, .f32⟩
  | .local _ .vmem, ⟨6, _⟩ => ⟨S34x32, .f32⟩
  | .local _ .vmem, ⟨7, _⟩ => ⟨S32x32, .f32⟩
  | .local _ .vmem, ⟨8, _⟩ => ⟨S32x32, .f32⟩
  | .local _ .vmem, ⟨9, _⟩ => ⟨S1x32, .f32⟩
  | .local _ .vmem, ⟨10, _⟩ => ⟨S1x32, .f32⟩
  | .local _ .vmem, ⟨11, _⟩ => ⟨S512x32, .f32⟩
  | .local _ .vmem, ⟨12, _⟩ => ⟨S512x32, .f32⟩
  | .local _ .vmem, ⟨13, _⟩ => ⟨S4096x4096, .i8⟩
  | .local _ .vmem, ⟨14, _⟩ => ⟨S4096x32, .f32⟩
  | .local _ .vmem, ⟨15, _⟩ => ⟨S4096x32, .i8⟩
  | .local _ .vmem, ⟨16, _⟩ => ⟨S4096x32, .i8⟩
  | .local _ .smem, ⟨0, _⟩ => ⟨S8, .f32⟩
  | .local _ .smem, ⟨1, _⟩ => ⟨S8, .f32⟩
  | _, _ => ⟨S2x4096x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_c_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_c_10 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_11 : Ref sig .tc := ⟨.hbm, 52, rfl⟩
abbrev main_v28 : Ref sig .tc := ⟨.hbm, 53, rfl⟩
abbrev main_c_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.smem, 0, rfl⟩
abbrev cc0_scratch5 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c512_i32 : BitVec 32 := 512#32
  let v0 : BitVec 32 := Scalar.muli arg1 c512_i32
  let v15 : Index := Scalar.indexCast v0
  let c0_5 : Index := 0#32
  ![v15.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v34 : Index := Scalar.indexCast v0
  let c0_16 : Index := 0#32
  ![v34.toNat, 0]
def k0_off3 (i : grid0.Coords) : Fin 2 → Nat :=
  let arg1 : BitVec 32 := BitVec.ofNat 32 (i 1).val
  let c512_i32 : BitVec 32 := 512#32
  let v0 : BitVec 32 := Scalar.muli arg1 c512_i32
  let v48 : Index := Scalar.indexCast v0
  let c0_22 : Index := 0#32
  ![v48.toNat, 0]
def k0_off4 (i : grid0.Coords) : Fin 1 → Nat :=
  let arg1 : BitVec 32 := BitVec.ofNat 32 (i 1).val
  let v70 : Index := Scalar.indexCast arg1
  ![v70.toNat]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off5 (i : grid0.Coords) : Fin 2 → Nat :=
  let arg1 : BitVec 32 := BitVec.ofNat 32 (i 1).val
  let c512_i32 : BitVec 32 := 512#32
  let v0 : BitVec 32 := Scalar.muli arg1 c512_i32
  let v13 : Index := Scalar.indexCast v0
  let c0 : Index := 0#32
  ![v13.toNat, 0]
def k0_off6 (i : grid0.Coords) : Fin 2 → Nat :=
  let arg1 : BitVec 32 := BitVec.ofNat 32 (i 1).val
  let c512_i32 : BitVec 32 := 512#32
  let v0 : BitVec 32 := Scalar.muli arg1 c512_i32
  let v78 : Index := Scalar.indexCast v0
  let c0_21 : Index := 0#32
  ![v78.toNat, 0]
def k0_off7 (i : grid0.Coords) : Fin 1 → Nat :=
  let arg1 : BitVec 32 := BitVec.ofNat 32 (i 1).val
  let v102 : Index := Scalar.indexCast arg1
  ![v102.toNat]
def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off8 (i : grid0.Coords) : Fin 2 → Nat :=
  let arg1 : BitVec 32 := BitVec.ofNat 32 (i 1).val
  let c512_i32 : BitVec 32 := 512#32
  let v0 : BitVec 32 := Scalar.muli arg1 c512_i32
  let v13 : Index := Scalar.indexCast v0
  let c0 : Index := 0#32
  ![v13.toNat, 0]
def k0_off9 (i : grid0.Coords) : Fin 2 → Nat :=
  let arg1 : BitVec 32 := BitVec.ofNat 32 (i 1).val
  let c512_i32 : BitVec 32 := 512#32
  let v0 : BitVec 32 := Scalar.muli arg1 c512_i32
  let v78 : Index := Scalar.indexCast v0
  let c0_21 : Index := 0#32
  ![v78.toNat, 0]
def k0_off10 (i : grid0.Coords) : Fin 1 → Nat :=
  let arg1 : BitVec 32 := BitVec.ofNat 32 (i 1).val
  let v102 : Index := Scalar.indexCast arg1
  ![v102.toNat]
def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off11 (i : grid0.Coords) : Fin 2 → Nat :=
  let arg1 : BitVec 32 := BitVec.ofNat 32 (i 1).val
  let c512_i32 : BitVec 32 := 512#32
  let v0 : BitVec 32 := Scalar.muli arg1 c512_i32
  let v13 : Index := Scalar.indexCast v0
  let c0 : Index := 0#32
  ![v13.toNat, 0]
def k0_off12 (i : grid0.Coords) : Fin 2 → Nat :=
  let arg1 : BitVec 32 := BitVec.ofNat 32 (i 1).val
  let c512_i32 : BitVec 32 := 512#32
  let v0 : BitVec 32 := Scalar.muli arg1 c512_i32
  let v78 : Index := Scalar.indexCast v0
  let c0_21 : Index := 0#32
  ![v78.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x34 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S34x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== ReferenceIdeal.lean ====
abbrev S2x4096x17 : Shape := ⟨3, ![2, 4096, 17]⟩
abbrev S4096x4096 : Shape := ⟨2, ![4096, 4096]⟩
abbrev S16x17 : Shape := ⟨2, ![16, 17]⟩
abbrev S16 : Shape := ⟨1, ![16]⟩
abbrev S16x16 : Shape := ⟨2, ![16, 16]⟩
abbrev S16x1 : Shape := ⟨2, ![16, 1]⟩
abbrev S_ : Shape := ⟨0, ![]⟩
abbrev S4096x4096x1 : Shape := ⟨3, ![4096, 4096, 1]⟩
abbrev S1x1x16 : Shape := ⟨3, ![1, 1, 16]⟩
abbrev S4096x4096x16 : Shape := ⟨3, ![4096, 4096, 16]⟩
abbrev S4096x16 : Shape := ⟨2, ![4096, 16]⟩
abbrev S1x16 : Shape := ⟨2, ![1, 16]⟩
abbrev S17x16 : Shape := ⟨2, ![17, 16]⟩
abbrev S2x4096x16 : Shape := ⟨3, ![2, 4096, 16]⟩
abbrev S2x8x512x16 : Shape := ⟨4, ![2, 8, 512, 16]⟩
abbrev S8 : Shape := ⟨1, ![8]⟩
abbrev S1x8x1x1 : Shape := ⟨4, ![1, 8, 1, 1]⟩
abbrev S2x16x4096 : Shape := ⟨3, ![2, 16, 4096]⟩
abbrev S1x4096x16 : Shape := ⟨3, ![1, 4096, 16]⟩

abbrev nBuf : Space → Nat
  | .hbm => 197
  | .vmem => 0
  | .smem => 0
  | _ => 0

abbrev hbmTy0_0 (i : Nat) : BufTy := match i % 128 with
  | 0 => ⟨S2x4096x17, .f32⟩
  | 1 => ⟨S4096x4096, .f32⟩
  | 2 => ⟨S4096x4096, .f32⟩
  | 3 => ⟨S16x17, .f32⟩
  | 4 => ⟨S16, .f32⟩
  | 5 => ⟨S16x16, .f32⟩
  | 6 => ⟨S16, .f32⟩
  | 7 => ⟨S16x16, .f32⟩
  | 8 => ⟨S16, .f32⟩
  | 9 => ⟨S16x1, .f32⟩
  | 10 => ⟨S16, .f32⟩
  | 11 => ⟨S_, .f32⟩
  | 12 => ⟨S4096x4096, .f32⟩
  | 13 => ⟨S4096x4096, .i1⟩
  | 14 => ⟨S_, .f32⟩
  | 15 => ⟨S_, .f32⟩
  | 16 => ⟨S4096x4096, .f32⟩
  | 17 => ⟨S4096x4096, .f32⟩
  | 18 => ⟨S4096x4096, .f32⟩
  | 19 => ⟨S16, .f32⟩
  | 20 => ⟨S4096x4096x1, .f32⟩
  | 21 => ⟨S1x1x16, .f32⟩
  | 22 => ⟨S4096x4096x16, .f32⟩
  | 23 => ⟨S4096x4096x16, .f32⟩
  | 24 => ⟨S4096x4096x16, .f32⟩
  | 25 => ⟨S1x1x16, .f32⟩
  | 26 => ⟨S4096x4096x16, .f32⟩
  | 27 => ⟨S4096x4096x16, .f32⟩
  | 28 => ⟨S_, .f32⟩
  | 29 => ⟨S4096x4096x16, .f32⟩
  | 30 => ⟨S4096x4096x16, .f32⟩
  | 31 => ⟨S4096x4096x1, .f32⟩
  | 32 => ⟨S4096x4096x1, .f32⟩
  | 33 => ⟨S4096x4096x16, .f32⟩
  | 34 => ⟨S4096x4096x16, .f32⟩
  | 35 => ⟨S_, .f32⟩
  | 36 => ⟨S4096x16, .f32⟩
  | 37 => ⟨S16x16, .f32⟩
  | 38 => ⟨S4096x16, .f32⟩
  | 39 => ⟨S1x16, .f32⟩
  | 40 => ⟨S4096x16, .f32⟩
  | 41 => ⟨S4096x16, .f32⟩
  | 42 => ⟨S17x16, .f32⟩
  | 43 => ⟨S2x4096x16, .f32⟩
  | 44 => ⟨S1x1x16, .f32⟩
  | 45 => ⟨S2x4096x16, .f32⟩
  | 46 => ⟨S2x4096x16, .f32⟩
  | 47 => ⟨S_, .f32⟩
  | 48 => ⟨S2x4096x16, .f32⟩
  | 49 => ⟨S2x8x512x16, .f32⟩
  | 50 => ⟨S_, .f32⟩
  | 51 => ⟨S8, .f32⟩
  | 52 => ⟨S1x8x1x1, .f32⟩
  | 53 => ⟨S_, .f32⟩
  | 54 => ⟨S1x8x1x1, .f32⟩
  | 55 => ⟨S1x8x1x1, .f32⟩
  | 56 => ⟨S_, .f32⟩
  | 57 => ⟨S1x8x1x1, .f32⟩
  | 58 => ⟨S1x8x1x1, .f32⟩
  | 59 => ⟨S2x8x512x16, .f32⟩
  | 60 => ⟨S2x8x512x16, .f32⟩
  | 61 => ⟨S_, .f32⟩
  | 62 => ⟨S2x8x512x16, .f32⟩
  | 63 => ⟨S2x8x512x16, .f32⟩
  | 64 => ⟨S2x8x512x16, .i32⟩
  | 65 => ⟨S2x8x512x16, .f32⟩
  | 66 => ⟨S_, .f32⟩
  | 67 => ⟨S1x8x1x1, .f32⟩
  | 68 => ⟨S1x8x1x1, .f32⟩
  | 69 => ⟨S2x8x512x16, .f32⟩
  | 70 => ⟨S2x8x512x16, .f32⟩
  | 71 => ⟨S2x4096x16, .f32⟩
  | 72 => ⟨S2x16x4096, .f32⟩
  | 73 => ⟨S2x4096x16, .f32⟩
  | 74 => ⟨S16x16, .f32⟩
  | 75 => ⟨S2x4096x16, .f32⟩
  | 76 => ⟨S1x1x16, .f32⟩
  | 77 => ⟨S2x4096x16, .f32⟩
  | 78 => ⟨S2x4096x16, .f32⟩
  | 79 => ⟨S2x4096x16, .f32⟩
  | 80 => ⟨S1x4096x16, .f32⟩
  | 81 => ⟨S2x4096x16, .f32⟩
  | 82 => ⟨S2x4096x16, .f32⟩
  | 83 => ⟨S_, .f32⟩
  | 84 => ⟨S2x4096x16, .f32⟩
  | 85 => ⟨S2x4096x16, .f32⟩
  | 86 => ⟨S2x8x512x16, .f32⟩
  | 87 => ⟨S_, .f32⟩
  | 88 => ⟨S8, .f32⟩
  | 89 => ⟨S1x8x1x1, .f32⟩
  | 90 => ⟨S_, .f32⟩
  | 91 => ⟨S1x8x1x1, .f32⟩
  | 92 => ⟨S1x8x1x1, .f32⟩
  | 93 => ⟨S_, .f32⟩
  | 94 => ⟨S1x8x1x1, .f32⟩
  | 95 => ⟨S1x8x1x1, .f32⟩
  | 96 => ⟨S2x8x512x16, .f32⟩
  | 97 => ⟨S2x8x512x16, .f32⟩
  | 98 => ⟨S_, .f32⟩
  | 99 => ⟨S2x8x512x16, .f32⟩
  | 100 => ⟨S2x8x512x16, .f32⟩
  | 101 => ⟨S2x8x512x16, .i32⟩
  | 102 => ⟨S2x8x512x16, .f32⟩
  | 103 => ⟨S_, .f32⟩
  | 104 => ⟨S1x8x1x1, .f32⟩
  | 105 => ⟨S1x8x1x1, .f32⟩
  | 106 => ⟨S2x8x512x16, .f32⟩
  | 107 => ⟨S2x8x512x16, .f32⟩
  | 108 => ⟨S2x4096x16, .f32⟩
  | 109 => ⟨S2x16x4096, .f32⟩
  | 110 => ⟨S2x4096x16, .f32⟩
  | 111 => ⟨S16x16, .f32⟩
  | 112 => ⟨S2x4096x16, .f32⟩
  | 113 => ⟨S1x1x16, .f32⟩
  | 114 => ⟨S2x4096x16, .f32⟩
  | 115 => ⟨S2x4096x16, .f32⟩
  | 116 => ⟨S2x4096x16, .f32⟩
  | 117 => ⟨S1x4096x16, .f32⟩
  | 118 => ⟨S2x4096x16, .f32⟩
  | 119 => ⟨S2x4096x16, .f32⟩
  | 120 => ⟨S_, .f32⟩
  | 121 => ⟨S2x4096x16, .f32⟩
  | 122 => ⟨S2x4096x16, .f32⟩
  | 123 => ⟨S2x8x512x16, .f32⟩
  | 124 => ⟨S_, .f32⟩
  | 125 => ⟨S8, .f32⟩
  | 126 => ⟨S1x8x1x1, .f32⟩
  | 127 => ⟨S_, .f32⟩
  | _ => ⟨S2x4096x17, .f32⟩

abbrev hbmTy0_1 (i : Nat) : BufTy := match i % 128 with
  | 0 => ⟨S1x8x1x1, .f32⟩
  | 1 => ⟨S1x8x1x1, .f32⟩
  | 2 => ⟨S_, .f32⟩
  | 3 => ⟨S1x8x1x1, .f32⟩
  | 4 => ⟨S1x8x1x1, .f32⟩
  | 5 => ⟨S2x8x512x16, .f32⟩
  | 6 => ⟨S2x8x512x16, .f32⟩
  | 7 => ⟨S_, .f32⟩
  | 8 => ⟨S2x8x512x16, .f32⟩
  | 9 => ⟨S2x8x512x16, .f32⟩
  | 10 => ⟨S2x8x512x16, .i32⟩
  | 11 => ⟨S2x8x512x16, .f32⟩
  | 12 => ⟨S_, .f32⟩
  | 13 => ⟨S1x8x1x1, .f32⟩
  | 14 => ⟨S1x8x1x1, .f32⟩
  | 15 => ⟨S2x8x512x16, .f32⟩
  | 16 => ⟨S2x8x512x16, .f32⟩
  | 17 => ⟨S2x4096x16, .f32⟩
  | 18 => ⟨S2x16x4096, .f32⟩
  | 19 => ⟨S2x4096x16, .f32⟩
  | 20 => ⟨S16x16, .f32⟩
  | 21 => ⟨S2x4096x16, .f32⟩
  | 22 => ⟨S1x1x16, .f32⟩
  | 23 => ⟨S2x4096x16, .f32⟩
  | 24 => ⟨S2x4096x16, .f32⟩
  | 25 => ⟨S2x4096x16, .f32⟩
  | 26 => ⟨S1x4096x16, .f32⟩
  | 27 => ⟨S2x4096x16, .f32⟩
  | 28 => ⟨S2x4096x16, .f32⟩
  | 29 => ⟨S_, .f32⟩
  | 30 => ⟨S2x4096x16, .f32⟩
  | 31 => ⟨S2x4096x16, .f32⟩
  | 32 => ⟨S2x8x512x16, .f32⟩
  | 33 => ⟨S_, .f32⟩
  | 34 => ⟨S8, .f32⟩
  | 35 => ⟨S1x8x1x1, .f32⟩
  | 36 => ⟨S_, .f32⟩
  | 37 => ⟨S1x8x1x1, .f32⟩
  | 38 => ⟨S1x8x1x1, .f32⟩
  | 39 => ⟨S_, .f32⟩
  | 40 => ⟨S1x8x1x1, .f32⟩
  | 41 => ⟨S1x8x1x1, .f32⟩
  | 42 => ⟨S2x8x512x16, .f32⟩
  | 43 => ⟨S2x8x512x16, .f32⟩
  | 44 => ⟨S_, .f32⟩
  | 45 => ⟨S2x8x512x16, .f32⟩
  | 46 => ⟨S2x8x512x16, .f32⟩
  | 47 => ⟨S2x8x512x16, .i32⟩
  | 48 => ⟨S2x8x512x16, .f32⟩
  | 49 => ⟨S_, .f32⟩
  | 50 => ⟨S1x8x1x1, .f32⟩
  | 51 => ⟨S1x8x1x1, .f32⟩
  | 52 => ⟨S2x8x512x16, .f32⟩
  | 53 => ⟨S2x8x512x16, .f32⟩
  | 54 => ⟨S2x4096x16, .f32⟩
  | 55 => ⟨S2x16x4096, .f32⟩
  | 56 => ⟨S2x4096x16, .f32⟩
  | 57 => ⟨S16x16, .f32⟩
  | 58 => ⟨S2x4096x16, .f32⟩
  | 59 => ⟨S1x1x16, .f32⟩
  | 60 => ⟨S2x4096x16, .f32⟩
  | 61 => ⟨S2x4096x16, .f32⟩
  | 62 => ⟨S2x4096x16, .f32⟩
  | 63 => ⟨S1x4096x16, .f32⟩
  | 64 => ⟨S2x4096x16, .f32⟩
  | 65 => ⟨S2x4096x16, .f32⟩
  | 66 => ⟨S_, .f32⟩
  | 67 => ⟨S2x4096x16, .f32⟩
  | 68 => ⟨S2x4096x16, .f32⟩
  | _ => ⟨S2x4096x17, .f32⟩

abbrev hbmTy (i : Nat) : BufTy := match i / 128 with
  | 0 => hbmTy0_0 i
  | 1 => hbmTy0_1 i
  | _ => ⟨S2x4096x17, .f32⟩

abbrev bufTy : (tb : Table) → Fin (tcTables nBuf tb) → BufTy
  | .hbm, ⟨i, _⟩ => hbmTy i
  | _, _ => ⟨S2x4096x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_cst : Ref sig .tc := ⟨.hbm, 83, rfl⟩
abbrev main_call2_v0 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call3_cst : Ref sig .tc := ⟨.hbm, 120, rfl⟩
abbrev main_call3_v0 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩
abbrev main_cst_15 : Ref sig .tc := ⟨.hbm, 127, rfl⟩
abbrev main_v92 : Ref sig .tc := ⟨.hbm, 128, rfl⟩
abbrev main_v93 : Ref sig .tc := ⟨.hbm, 129, rfl⟩
abbrev main_cst_16 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_17 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_call4_cst : Ref sig .tc := ⟨.hbm, 157, rfl⟩
abbrev main_call4_v0 : Ref sig .tc := ⟨.hbm, 158, rfl⟩
abbrev main_v118 : Ref sig .tc := ⟨.hbm, 159, rfl⟩
abbrev main_v119 : Ref sig .tc := ⟨.hbm, 160, rfl⟩
abbrev main_cst_19 : Ref sig .tc := ⟨.hbm, 161, rfl⟩
abbrev main_v120 : Ref sig .tc := ⟨.hbm, 162, rfl⟩
abbrev main_v121 : Ref sig .tc := ⟨.hbm, 163, rfl⟩
abbrev main_cst_20 : Ref sig .tc := ⟨.hbm, 164, rfl⟩
abbrev main_v122 : Ref sig .tc := ⟨.hbm, 165, rfl⟩
abbrev main_v123 : Ref sig .tc := ⟨.hbm, 166, rfl⟩
abbrev main_cst_21 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_22 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_23 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_call5_cst : Ref sig .tc := ⟨.hbm, 194, rfl⟩
abbrev main_call5_v0 : Ref sig .tc := ⟨.hbm, 195, rfl⟩
abbrev main_v148 : Ref sig .tc := ⟨.hbm, 196, rfl⟩

abbrev nD : Nat := 1
abbrev τ : Topo := Topo.v7x

variable {F : FTy → Type} [FloatOps F]
-- ==== Proof.Spec.lean ====
/- What the kernel computes, block by block: the functions its stores leave, over any float operations. -/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic

section Windows

variable {α : Type}

/-- Rows `512 j … 512 j + 511` of an array, and the same rows of an array written. -/
def rows32 (x : S4096x32.Idx → α) (j : Fin 8) : S512x32.Idx → α :=
  VecWindow.window x ![512 * j.val, 0] S512x32.size (Fin.forall_fin_two.mpr ⟨by show 512 * j.val + 512 ≤ 4096; omega, le_refl 32⟩)
def rows34 (x : S4096x34.Idx → α) (j : Fin 8) : S512x34.Idx → α :=
  VecWindow.window x ![512 * j.val, 0] S512x34.size (Fin.forall_fin_two.mpr ⟨by show 512 * j.val + 512 ≤ 4096; omega, le_refl 34⟩)
def rowsM (x : S4096x4096.Idx → α) (j : Fin 8) : S512x4096.Idx → α :=
  VecWindow.window x ![512 * j.val, 0] S512x4096.size (Fin.forall_fin_two.mpr ⟨by show 512 * j.val + 512 ≤ 4096; omega, le_refl 4096⟩)
def put32 (x : S4096x32.Idx → α) (j : Fin 8) (w : S512x32.Idx → α) : S4096x32.Idx → α :=
  VecWindow.put x ![512 * j.val, 0] S512x32.size w
def putM (x : S4096x4096.Idx → α) (j : Fin 8) (w : S512x4096.Idx → α) : S4096x4096.Idx → α :=
  VecWindow.put x ![512 * j.val, 0] S512x4096.size w

/-- Cell `k` of the eight scales, and the scales with one cell written. -/
def cell (k : Fin 8) : S8.Idx := fun a => match a with | ⟨0, _⟩ => k
def putCell (x : S8.Idx → α) (j : Fin 8) (v : α) : S8.Idx → α := VecWindow.put x ![j.val] ![1] (fun _ => v)

theorem rows32_put (x : S4096x32.Idx → α) (j k : Fin 8) (w : S512x32.Idx → α) :
    rows32 (put32 x j w) k = if k = j then w else rows32 x k := by
  by_cases h : k = j
  · subst h; rw [if_pos rfl]; exact VecWindow.window_put_same ..
  · rw [if_neg h]
    have : k.val ≠ j.val := fun e => h (Fin.ext e)
    exact VecWindow.window_put_of_disjoint x _ _ _ _ _ w 0 (by
      show 512 * k.val + 512 ≤ 512 * j.val ∨ 512 * j.val + 512 ≤ 512 * k.val; omega)

theorem rowsM_put (x : S4096x4096.Idx → α) (j k : Fin 8) (w : S512x4096.Idx → α) :
    rowsM (putM x j w) k = if k = j then w else rowsM x k := by
  by_cases h : k = j
  · subst h; rw [if_pos rfl]; exact VecWindow.window_put_same ..
  · rw [if_neg h]
    have : k.val ≠ j.val := fun e => h (Fin.ext e)
    exact VecWindow.window_put_of_disjoint x _ _ _ _ _ w 0 (by
      show 512 * k.val + 512 ≤ 512 * j.val ∨ 512 * j.val + 512 ≤ 512 * k.val; omega)

theorem cell_put (x : S8.Idx → α) (j k : Fin 8) (v : α) :
    putCell x j v (cell k) = if k = j then v else x (cell k) := by
  unfold putCell VecWindow.put
  by_cases h : k = j
  · subst h; rw [if_pos rfl, dif_pos]
    intro a; obtain rfl := Fin.eq_zero a
    exact ⟨le_refl _, Nat.lt_succ_self _⟩
  · rw [if_neg h, dif_neg]
    intro ha
    have h0 : j.val ≤ k.val ∧ k.val < j.val + 1 := ha 0
    exact h (Fin.ext (by omega))

end Windows

variable {F : FTy → Type} [FloatOps F]

/-- The part of an embedding that no round changes: node features, edge weights and every bias, for one block of nodes. -/
def term (x2 x3 : Vec F S512x4096 .f32) (x4 : Vec F S4096x8 .bf16) (x5 : Vec F S512x34 .f32) (x6 : Vec F S34x32 .f32)
    (x8 : Vec F S32x32 .f32) (x9 x10 : Vec F S1x32 .f32) : FVec F S512x32 .f32 :=
  k0_pay12 x2 x3 x4 x9 x8 x5 x6 x10

/-- A block's largest embedding, kept off zero. -/
def largest (e : FVec F S512x32 .f32) : F .f32 :=
  Scalar.maximumf (extractAt ![0, 0, 0] (shapeCast S1x1x1 (multiReduction .maximumf [1, 2] S1
    (shapeCast S1x512x32 e shapeCasts_S512x32_S1x512x32) 0xFF800000#32 reduces_S1x512x32_S1 (.inl rfl) rfl)
    shapeCasts_S1_S1x1x1) inpos_S1x1x1_p0_0_0) (Scalar.ofBits .f32 0x0DA24260#32)

/-- A block's embeddings in eight bits, and the scale that takes them back. -/
def quant (e : FVec F S512x32 .f32) : IVec S512x32 8 := k0_pay6 e (Scalar.divf (Scalar.ofBits .f32 0x42FE0000#32) (largest e))
def scale (e : FVec F S512x32 .f32) : F .f32 := k0_pay7 (largest e)

/-- One round at one block of nodes: the neighbours' eight-bit embeddings summed block by block in integers, each sum
    at its scale, then the neighbour matrix, the fixed part and the rectifier. -/
def combine (mk : Vec F S512x4096 .i8) (q : Fin 8 → Vec F S512x32 .i8) (s : Fin 8 → Elt F .f32) (fixed : Vec F S512x32 .f32)
    (w2 : Vec F S32x32 .f32) : FVec F S512x32 .f32 :=
  k0_pay16 mk (k0_pay13 mk (q 0) (s 0) (q 1) (s 1) (q 2) (s 2) (q 3) (s 3)) (k0_pay14 mk (q 4)) (k0_pay15 (s 4))
    (q 5) (s 5) (q 6) (s 6) (q 7) (s 7) fixed w2

end Cert.KernelIdeal.Hand

end
-- ==== Proof.Body.lean ====
/- The kernel's body at one grid point, round by round: from the staged blocks and the scratch at known values, the
   values it leaves. -/
module

public import proofs.«01_k».proof.Proof.Spec
public import proofs.«01_k».proof.Proof.Gen.KernelIdeal.Frame
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a block's rows, at offsets the program computes, reads those rows. -/
theorem load32 {e : EltTy} {sp : Space} (v : View sig .tc sp S4096x32 e) (f : v.ty.Contents (Elt F)) {off : Fin 2 → ℕ} (j : Fin 8)
    (h : off = ![512 * j.val, 0]) (inb : ∀ a, off a + (![512, 32] : Fin 2 → ℕ) a ≤ S4096x32.size a) :
    v.readAt (Elt F) (Rect.unit off ![512, 32] inb).toLoadRect f = rows32 (v.read (Elt F) f) j := by subst h; rfl
theorem load34 {e : EltTy} {sp : Space} (v : View sig .tc sp S4096x34 e) (f : v.ty.Contents (Elt F)) {off : Fin 2 → ℕ} (j : Fin 8)
    (h : off = ![512 * j.val, 0]) (inb : ∀ a, off a + (![512, 34] : Fin 2 → ℕ) a ≤ S4096x34.size a) :
    v.readAt (Elt F) (Rect.unit off ![512, 34] inb).toLoadRect f = rows34 (v.read (Elt F) f) j := by subst h; rfl
theorem loadM {e : EltTy} {sp : Space} (v : View sig .tc sp S4096x4096 e) (f : v.ty.Contents (Elt F)) {off : Fin 2 → ℕ} (j : Fin 8)
    (h : off = ![512 * j.val, 0]) (inb : ∀ a, off a + (![512, 4096] : Fin 2 → ℕ) a ≤ S4096x4096.size a) :
    v.readAt (Elt F) (Rect.unit off ![512, 4096] inb).toLoadRect f = rowsM (v.read (Elt F) f) j := by subst h; rfl
/-- A load of a whole staged block. -/
theorem load512 {e : EltTy} {sp : Space} (v : View sig .tc sp S512x4096 e) (f : v.ty.Contents (Elt F))
    (inb : ∀ a, (![0, 0] : Fin 2 → ℕ) a + (![512, 4096] : Fin 2 → ℕ) a ≤ S512x4096.size a) :
    v.readAt (Elt F) (Rect.unit ![0, 0] ![512, 4096] inb).toLoadRect f = v.read (Elt F) f :=
  View.readAt_full v f inb

/-- A load of a whole staged block. -/
theorem loadW8 {e : EltTy} {sp : Space} (v : View sig .tc sp S4096x8 e) (f : v.ty.Contents (Elt F))
    (inb : ∀ a, (![0, 0] : Fin 2 → ℕ) a + (![4096, 8] : Fin 2 → ℕ) a ≤ S4096x8.size a) :
    v.readAt (Elt F) (Rect.unit ![0, 0] ![4096, 8] inb).toLoadRect f = v.read (Elt F) f :=
  View.readAt_full v f inb

/-- A load of a whole staged block. -/
theorem loadW34 {e : EltTy} {sp : Space} (v : View sig .tc sp S34x32 e) (f : v.ty.Contents (Elt F))
    (inb : ∀ a, (![0, 0] : Fin 2 → ℕ) a + (![34, 32] : Fin 2 → ℕ) a ≤ S34x32.size a) :
    v.readAt (Elt F) (Rect.unit ![0, 0] ![34, 32] inb).toLoadRect f = v.read (Elt F) f :=
  View.readAt_full v f inb

/-- A load of a whole staged block. -/
theorem loadW32 {e : EltTy} {sp : Space} (v : View sig .tc sp S32x32 e) (f : v.ty.Contents (Elt F))
    (inb : ∀ a, (![0, 0] : Fin 2 → ℕ) a + (![32, 32] : Fin 2 → ℕ) a ≤ S32x32.size a) :
    v.readAt (Elt F) (Rect.unit ![0, 0] ![32, 32] inb).toLoadRect f = v.read (Elt F) f :=
  View.readAt_full v f inb

/-- A load of a whole staged block. -/
theorem loadW1 {e : EltTy} {sp : Space} (v : View sig .tc sp S1x32 e) (f : v.ty.Contents (Elt F))
    (inb : ∀ a, (![0, 0] : Fin 2 → ℕ) a + (![1, 32] : Fin 2 → ℕ) a ≤ S1x32.size a) :
    v.readAt (Elt F) (Rect.unit ![0, 0] ![1, 32] inb).toLoadRect f = v.read (Elt F) f :=
  View.readAt_full v f inb

/-- A load of one scale. -/
theorem loadCell {e : EltTy} {sp : Space} (v : View sig .tc sp S8 e) (f : v.ty.Contents (Elt F)) {off : Fin 1 → ℕ} (k : Fin 8)
    (h : off = ![k.val]) (inb : ∀ a, off a + (![1] : Fin 1 → ℕ) a ≤ S8.size a) (hp : 0 < (Rect.unit (s := S8) off ![1] inb).toLoadRect.shape.numel) :
    v.readAt (Elt F) (Rect.unit off ![1] inb).toLoadRect f (Shape.Idx.first hp) = v.read (Elt F) f (cell k) := by
  subst h
  refine congrArg (v.read (Elt F) f) (funext fun a => ?_)
  obtain rfl : a = 0 := Fin.eq_zero a
  rfl

set_option maxHeartbeats 4000000 in
/-- Round 0: what the body leaves at a point of block `j`. -/
theorem body0 (c : Dev nD) (i : grid0.Coords) (j : Fin 8) (hj : (i 1).val = j.val) (h1 : k0_cond1 i = 1#1) (h2 : ¬ k0_cond2 i = 1#1) (h3 : ¬ k0_cond3 i = 1#1) (h4 : ¬ k0_cond4 i = 1#1)
    (arg2 : Memref sig .tc .vmem S512x4096 .f32) (harg2 : arg2.IsWhole) (arg3 : Memref sig .tc .vmem S512x4096 .f32) (harg3 : arg3.IsWhole) (arg4 : Memref sig .tc .vmem S4096x8 .bf16) (harg4 : arg4.IsWhole) (arg5 : Memref sig .tc .vmem S4096x34 .f32) (harg5 : arg5.IsWhole) (arg6 : Memref sig .tc .vmem S34x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S512x32 .f32) (harg11 : arg11.IsWhole) (arg12 : Memref sig .tc .vmem S4096x4096 .i8) (harg12 : arg12.IsWhole) (arg13 : Memref sig .tc .vmem S4096x32 .f32) (harg13 : arg13.IsWhole) (arg14 : Memref sig .tc .vmem S4096x32 .i8) (harg14 : arg14.IsWhole) (arg15 : Memref sig .tc .vmem S4096x32 .i8) (harg15 : arg15.IsWhole) (arg16 : Memref sig .tc .smem S8 .f32) (harg16 : arg16.IsWhole) (arg17 : Memref sig .tc .smem S8 .f32) (harg17 : arg17.IsWhole)
    (x2 : Vec F S512x4096 .f32) (x3 : Vec F S512x4096 .f32) (x4 : Vec F S4096x8 .bf16) (x5 : Vec F S4096x34 .f32) (x6 : Vec F S34x32 .f32) (x7 : Vec F S32x32 .f32) (x8 : Vec F S32x32 .f32) (x9 : Vec F S1x32 .f32) (x10 : Vec F S1x32 .f32) (x12 : Vec F S4096x4096 .i8) (x13 : Vec F S4096x32 .f32) (x14 : Vec F S4096x32 .i8) (x15 : Vec F S4096x32 .i8) (x16 : Vec F S8 .f32) (x17 : Vec F S8 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (k0_pay2 (term x2 x3 x4 (rows34 x5 j) x6 x8 x9 x10)) ∗ owns (c : Thread nD τ) arg12 fullShare (putM x12 j (k0_pay11 x2)) ∗ owns (c : Thread nD τ) arg13 fullShare (put32 x13 j (term x2 x3 x4 (rows34 x5 j) x6 x8 x9 x10)) ∗ owns (c : Thread nD τ) arg14 fullShare (put32 x14 j (quant (k0_pay2 (term x2 x3 x4 (rows34 x5 j) x6 x8 x9 x10)))) ∗ owns (c : Thread nD τ) arg15 fullShare (x15) ∗ owns (c : Thread nD τ) arg16 fullShare (putCell x16 j (scale (k0_pay2 (term x2 x3 x4 (rows34 x5 j) x6 x8 x9 x10)))) ∗ owns (c : Thread nD τ) arg17 fullShare (x17)) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf12 hf13 hf14 hf15 hf16 hf17
  sl_exec
  sl_step
  have e1 : k0_off1 i = ![512 * j.val, 0] := by rw [k0_off1_eq, hj]
  have e2 : k0_off2 i = ![512 * j.val, 0] := by rw [k0_off2_eq, hj]
  have e3 : k0_off3 i = ![512 * j.val, 0] := by rw [k0_off3_eq, hj]
  have e4 : k0_off4 i = ![j.val] := by rw [k0_off4_eq, hj]
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_full]
    simp only [load34 arg5.view f5 j e2, load512, loadW8, loadW34, loadW32, loadW1]
    rfl
  isplitl [H12]
  · iexists _; isplitr
    swap; · iexact H12
    ipureintro
    rw [View.read_writes_cons_put _ _ _ _ [] e1]
    simp only [load34 arg5.view f5 j e2, load512, loadW8, loadW34, loadW32, loadW1]
    rfl
  isplitl [H13]
  · iexists _; isplitr
    swap; · iexact H13
    ipureintro
    rw [View.read_writes_cons_put _ _ _ _ [] e3]
    simp only [load34 arg5.view f5 j e2, load512, loadW8, loadW34, loadW32, loadW1]
    exact congrArg (put32 _ j) (shapeCast_self _ _)
  isplitl [H14]
  · iexists _; isplitr
    swap; · iexact H14
    ipureintro
    rw [View.read_writes_cons_put _ _ _ _ [] e3]
    simp only [load34 arg5.view f5 j e2, load512, loadW8, loadW34, loadW32, loadW1]
    rfl
  isplitl [H15]
  · iexists f15; isplitr; · ipureintro; rfl
    iexact H15
  isplitl [H16]
  · iexists _; isplitr
    swap; · iexact H16
    ipureintro
    rw [View.read_writes_cons_put _ _ _ _ [] e4]
    simp only [load34 arg5.view f5 j e2, load512, loadW8, loadW34, loadW32, loadW1]
    rfl
  iexists f17; isplitr; · ipureintro; rfl
  iexact H17

set_option maxHeartbeats 4000000 in
/-- Round 1: what the body leaves at a point of block `j`. -/
theorem body1 (c : Dev nD) (i : grid0.Coords) (j : Fin 8) (hj : (i 1).val = j.val) (h1 : ¬ k0_cond1 i = 1#1) (h2 : k0_cond2 i = 1#1) (h3 : ¬ k0_cond3 i = 1#1) (h4 : ¬ k0_cond4 i = 1#1)
    (arg2 : Memref sig .tc .vmem S512x4096 .f32) (harg2 : arg2.IsWhole) (arg3 : Memref sig .tc .vmem S512x4096 .f32) (harg3 : arg3.IsWhole) (arg4 : Memref sig .tc .vmem S4096x8 .bf16) (harg4 : arg4.IsWhole) (arg5 : Memref sig .tc .vmem S4096x34 .f32) (harg5 : arg5.IsWhole) (arg6 : Memref sig .tc .vmem S34x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S512x32 .f32) (harg11 : arg11.IsWhole) (arg12 : Memref sig .tc .vmem S4096x4096 .i8) (harg12 : arg12.IsWhole) (arg13 : Memref sig .tc .vmem S4096x32 .f32) (harg13 : arg13.IsWhole) (arg14 : Memref sig .tc .vmem S4096x32 .i8) (harg14 : arg14.IsWhole) (arg15 : Memref sig .tc .vmem S4096x32 .i8) (harg15 : arg15.IsWhole) (arg16 : Memref sig .tc .smem S8 .f32) (harg16 : arg16.IsWhole) (arg17 : Memref sig .tc .smem S8 .f32) (harg17 : arg17.IsWhole)
    (x2 : Vec F S512x4096 .f32) (x3 : Vec F S512x4096 .f32) (x4 : Vec F S4096x8 .bf16) (x5 : Vec F S4096x34 .f32) (x6 : Vec F S34x32 .f32) (x7 : Vec F S32x32 .f32) (x8 : Vec F S32x32 .f32) (x9 : Vec F S1x32 .f32) (x10 : Vec F S1x32 .f32) (x12 : Vec F S4096x4096 .i8) (x13 : Vec F S4096x32 .f32) (x14 : Vec F S4096x32 .i8) (x15 : Vec F S4096x32 .i8) (x16 : Vec F S8 .f32) (x17 : Vec F S8 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare ((combine (rowsM x12 j) (fun k => rows32 x14 k) (fun k => x16 (cell k)) (rows32 x13 j) x7)) ∗ owns (c : Thread nD τ) arg12 fullShare (x12) ∗ owns (c : Thread nD τ) arg13 fullShare (x13) ∗ owns (c : Thread nD τ) arg14 fullShare (x14) ∗ owns (c : Thread nD τ) arg15 fullShare (put32 x15 j (quant (combine (rowsM x12 j) (fun k => rows32 x14 k) (fun k => x16 (cell k)) (rows32 x13 j) x7))) ∗ owns (c : Thread nD τ) arg16 fullShare (x16) ∗ owns (c : Thread nD τ) arg17 fullShare (putCell x17 j (scale (combine (rowsM x12 j) (fun k => rows32 x14 k) (fun k => x16 (cell k)) (rows32 x13 j) x7)))) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part2_eq_skeleton]; unfold k0_part2_skel
  simp only [k0_part3_eq_skeleton]; unfold k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf12 hf13 hf14 hf15 hf16 hf17
  sl_exec
  sl_step
  have e5 : k0_off5 i = ![512 * j.val, 0] := by rw [k0_off5_eq, hj]
  have e6 : k0_off6 i = ![512 * j.val, 0] := by rw [k0_off6_eq, hj]
  have e7 : k0_off7 i = ![j.val] := by rw [k0_off7_eq, hj]
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_full]
    simp only [loadW32, loadM arg12.view f12 j e5, load32 arg13.view f13 j e6, load32 arg14.view f14 (off := ![0, 0]) 0 rfl, load32 arg14.view f14 (off := ![512, 0]) 1 rfl, load32 arg14.view f14 (off := ![1024, 0]) 2 rfl, load32 arg14.view f14 (off := ![1536, 0]) 3 rfl, load32 arg14.view f14 (off := ![2048, 0]) 4 rfl, load32 arg14.view f14 (off := ![2560, 0]) 5 rfl, load32 arg14.view f14 (off := ![3072, 0]) 6 rfl, load32 arg14.view f14 (off := ![3584, 0]) 7 rfl, show body1.sl.r c arg16 f16 = _ from loadCell arg16.view f16 0 rfl _ _, show body1.sl.r_1 c arg16 f16 = _ from loadCell arg16.view f16 1 rfl _ _, show body1.sl.r_2 c arg16 f16 = _ from loadCell arg16.view f16 2 rfl _ _, show body1.sl.r_3 c arg16 f16 = _ from loadCell arg16.view f16 3 rfl _ _, show body1.sl.r_4 c arg16 f16 = _ from loadCell arg16.view f16 4 rfl _ _, show body1.sl.r_5 c arg16 f16 = _ from loadCell arg16.view f16 5 rfl _ _, show body1.sl.r_6 c arg16 f16 = _ from loadCell arg16.view f16 6 rfl _ _, show body1.sl.r_7 c arg16 f16 = _ from loadCell arg16.view f16 7 rfl _ _]
    rfl
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [View.read_writes_cons_put _ _ _ _ [] e6]
    simp only [loadW32, loadM arg12.view f12 j e5, load32 arg13.view f13 j e6, load32 arg14.view f14 (off := ![0, 0]) 0 rfl, load32 arg14.view f14 (off := ![512, 0]) 1 rfl, load32 arg14.view f14 (off := ![1024, 0]) 2 rfl, load32 arg14.view f14 (off := ![1536, 0]) 3 rfl, load32 arg14.view f14 (off := ![2048, 0]) 4 rfl, load32 arg14.view f14 (off := ![2560, 0]) 5 rfl, load32 arg14.view f14 (off := ![3072, 0]) 6 rfl, load32 arg14.view f14 (off := ![3584, 0]) 7 rfl, show body1.sl.r c arg16 f16 = _ from loadCell arg16.view f16 0 rfl _ _, show body1.sl.r_1 c arg16 f16 = _ from loadCell arg16.view f16 1 rfl _ _, show body1.sl.r_2 c arg16 f16 = _ from loadCell arg16.view f16 2 rfl _ _, show body1.sl.r_3 c arg16 f16 = _ from loadCell arg16.view f16 3 rfl _ _, show body1.sl.r_4 c arg16 f16 = _ from loadCell arg16.view f16 4 rfl _ _, show body1.sl.r_5 c arg16 f16 = _ from loadCell arg16.view f16 5 rfl _ _, show body1.sl.r_6 c arg16 f16 = _ from loadCell arg16.view f16 6 rfl _ _, show body1.sl.r_7 c arg16 f16 = _ from loadCell arg16.view f16 7 rfl _ _]
    rfl
  isplitl [H16]
  · iexists f16; isplitr; · ipureintro; rfl
    iexact H16
  iexists _; isplitr
  swap; · iexact H17
  ipureintro
  rw [View.read_writes_cons_put _ _ _ _ [] e7]
  simp only [loadW32, loadM arg12.view f12 j e5, load32 arg13.view f13 j e6, load32 arg14.view f14 (off := ![0, 0]) 0 rfl, load32 arg14.view f14 (off := ![512, 0]) 1 rfl, load32 arg14.view f14 (off := ![1024, 0]) 2 rfl, load32 arg14.view f14 (off := ![1536, 0]) 3 rfl, load32 arg14.view f14 (off := ![2048, 0]) 4 rfl, load32 arg14.view f14 (off := ![2560, 0]) 5 rfl, load32 arg14.view f14 (off := ![3072, 0]) 6 rfl, load32 arg14.view f14 (off := ![3584, 0]) 7 rfl, show body1.sl.r c arg16 f16 = _ from loadCell arg16.view f16 0 rfl _ _, show body1.sl.r_1 c arg16 f16 = _ from loadCell arg16.view f16 1 rfl _ _, show body1.sl.r_2 c arg16 f16 = _ from loadCell arg16.view f16 2 rfl _ _, show body1.sl.r_3 c arg16 f16 = _ from loadCell arg16.view f16 3 rfl _ _, show body1.sl.r_4 c arg16 f16 = _ from loadCell arg16.view f16 4 rfl _ _, show body1.sl.r_5 c arg16 f16 = _ from loadCell arg16.view f16 5 rfl _ _, show body1.sl.r_6 c arg16 f16 = _ from loadCell arg16.view f16 6 rfl _ _, show body1.sl.r_7 c arg16 f16 = _ from loadCell arg16.view f16 7 rfl _ _]
  rfl

set_option maxHeartbeats 4000000 in
/-- Round 2: what the body leaves at a point of block `j`. -/
theorem body2 (c : Dev nD) (i : grid0.Coords) (j : Fin 8) (hj : (i 1).val = j.val) (h1 : ¬ k0_cond1 i = 1#1) (h2 : ¬ k0_cond2 i = 1#1) (h3 : k0_cond3 i = 1#1) (h4 : ¬ k0_cond4 i = 1#1)
    (arg2 : Memref sig .tc .vmem S512x4096 .f32) (harg2 : arg2.IsWhole) (arg3 : Memref sig .tc .vmem S512x4096 .f32) (harg3 : arg3.IsWhole) (arg4 : Memref sig .tc .vmem S4096x8 .bf16) (harg4 : arg4.IsWhole) (arg5 : Memref sig .tc .vmem S4096x34 .f32) (harg5 : arg5.IsWhole) (arg6 : Memref sig .tc .vmem S34x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S512x32 .f32) (harg11 : arg11.IsWhole) (arg12 : Memref sig .tc .vmem S4096x4096 .i8) (harg12 : arg12.IsWhole) (arg13 : Memref sig .tc .vmem S4096x32 .f32) (harg13 : arg13.IsWhole) (arg14 : Memref sig .tc .vmem S4096x32 .i8) (harg14 : arg14.IsWhole) (arg15 : Memref sig .tc .vmem S4096x32 .i8) (harg15 : arg15.IsWhole) (arg16 : Memref sig .tc .smem S8 .f32) (harg16 : arg16.IsWhole) (arg17 : Memref sig .tc .smem S8 .f32) (harg17 : arg17.IsWhole)
    (x2 : Vec F S512x4096 .f32) (x3 : Vec F S512x4096 .f32) (x4 : Vec F S4096x8 .bf16) (x5 : Vec F S4096x34 .f32) (x6 : Vec F S34x32 .f32) (x7 : Vec F S32x32 .f32) (x8 : Vec F S32x32 .f32) (x9 : Vec F S1x32 .f32) (x10 : Vec F S1x32 .f32) (x12 : Vec F S4096x4096 .i8) (x13 : Vec F S4096x32 .f32) (x14 : Vec F S4096x32 .i8) (x15 : Vec F S4096x32 .i8) (x16 : Vec F S8 .f32) (x17 : Vec F S8 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare ((combine (rowsM x12 j) (fun k => rows32 x15 k) (fun k => x17 (cell k)) (rows32 x13 j) x7)) ∗ owns (c : Thread nD τ) arg12 fullShare (x12) ∗ owns (c : Thread nD τ) arg13 fullShare (x13) ∗ owns (c : Thread nD τ) arg14 fullShare (put32 x14 j (quant (combine (rowsM x12 j) (fun k => rows32 x15 k) (fun k => x17 (cell k)) (rows32 x13 j) x7))) ∗ owns (c : Thread nD τ) arg15 fullShare (x15) ∗ owns (c : Thread nD τ) arg16 fullShare (putCell x16 j (scale (combine (rowsM x12 j) (fun k => rows32 x15 k) (fun k => x17 (cell k)) (rows32 x13 j) x7))) ∗ owns (c : Thread nD τ) arg17 fullShare (x17)) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part4_eq_skeleton]; unfold k0_part4_skel
  simp only [k0_part5_eq_skeleton]; unfold k0_part5_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf12 hf13 hf14 hf15 hf16 hf17
  sl_exec
  sl_step
  have e8 : k0_off8 i = ![512 * j.val, 0] := by rw [k0_off8_eq, hj]
  have e9 : k0_off9 i = ![512 * j.val, 0] := by rw [k0_off9_eq, hj]
  have e10 : k0_off10 i = ![j.val] := by rw [k0_off10_eq, hj]
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_full]
    simp only [loadW32, loadM arg12.view f12 j e8, load32 arg13.view f13 j e9, load32 arg15.view f15 (off := ![0, 0]) 0 rfl, load32 arg15.view f15 (off := ![512, 0]) 1 rfl, load32 arg15.view f15 (off := ![1024, 0]) 2 rfl, load32 arg15.view f15 (off := ![1536, 0]) 3 rfl, load32 arg15.view f15 (off := ![2048, 0]) 4 rfl, load32 arg15.view f15 (off := ![2560, 0]) 5 rfl, load32 arg15.view f15 (off := ![3072, 0]) 6 rfl, load32 arg15.view f15 (off := ![3584, 0]) 7 rfl, show body2.sl.r c arg17 f17 = _ from loadCell arg17.view f17 0 rfl _ _, show body2.sl.r_1 c arg17 f17 = _ from loadCell arg17.view f17 1 rfl _ _, show body2.sl.r_2 c arg17 f17 = _ from loadCell arg17.view f17 2 rfl _ _, show body2.sl.r_3 c arg17 f17 = _ from loadCell arg17.view f17 3 rfl _ _, show body2.sl.r_4 c arg17 f17 = _ from loadCell arg17.view f17 4 rfl _ _, show body2.sl.r_5 c arg17 f17 = _ from loadCell arg17.view f17 5 rfl _ _, show body2.sl.r_6 c arg17 f17 = _ from loadCell arg17.view f17 6 rfl _ _, show body2.sl.r_7 c arg17 f17 = _ from loadCell arg17.view f17 7 rfl _ _]
    rfl
  isplitl [H12]
  · iexists f12; isplitr; · ipureintro; rfl
    iexact H12
  isplitl [H13]
  · iexists f13; isplitr; · ipureintro; rfl
    iexact H13
  isplitl [H14]
  · iexists _; isplitr
    swap; · iexact H14
    ipureintro
    rw [View.read_writes_cons_put _ _ _ _ [] e9]
    simp only [loadW32, loadM arg12.view f12 j e8, load32 arg13.view f13 j e9, load32 arg15.view f15 (off := ![0, 0]) 0 rfl, load32 arg15.view f15 (off := ![512, 0]) 1 rfl, load32 arg15.view f15 (off := ![1024, 0]) 2 rfl, load32 arg15.view f15 (off := ![1536, 0]) 3 rfl, load32 arg15.view f15 (off := ![2048, 0]) 4 rfl, load32 arg15.view f15 (off := ![2560, 0]) 5 rfl, load32 arg15.view f15 (off := ![3072, 0]) 6 rfl, load32 arg15.view f15 (off := ![3584, 0]) 7 rfl, show body2.sl.r c arg17 f17 = _ from loadCell arg17.view f17 0 rfl _ _, show body2.sl.r_1 c arg17 f17 = _ from loadCell arg17.view f17 1 rfl _ _, show body2.sl.r_2 c arg17 f17 = _ from loadCell arg17.view f17 2 rfl _ _, show body2.sl.r_3 c arg17 f17 = _ from loadCell arg17.view f17 3 rfl _ _, show body2.sl.r_4 c arg17 f17 = _ from loadCell arg17.view f17 4 rfl _ _, show body2.sl.r_5 c arg17 f17 = _ from loadCell arg17.view f17 5 rfl _ _, show body2.sl.r_6 c arg17 f17 = _ from loadCell arg17.view f17 6 rfl _ _, show body2.sl.r_7 c arg17 f17 = _ from loadCell arg17.view f17 7 rfl _ _]
    rfl
  isplitl [H15]
  · iexists f15; isplitr; · ipureintro; rfl
    iexact H15
  isplitl [H16]
  · iexists _; isplitr
    swap; · iexact H16
    ipureintro
    rw [View.read_writes_cons_put _ _ _ _ [] e10]
    simp only [loadW32, loadM arg12.view f12 j e8, load32 arg13.view f13 j e9, load32 arg15.view f15 (off := ![0, 0]) 0 rfl, load32 arg15.view f15 (off := ![512, 0]) 1 rfl, load32 arg15.view f15 (off := ![1024, 0]) 2 rfl, load32 arg15.view f15 (off := ![1536, 0]) 3 rfl, load32 arg15.view f15 (off := ![2048, 0]) 4 rfl, load32 arg15.view f15 (off := ![2560, 0]) 5 rfl, load32 arg15.view f15 (off := ![3072, 0]) 6 rfl, load32 arg15.view f15 (off := ![3584, 0]) 7 rfl, show body2.sl.r c arg17 f17 = _ from loadCell arg17.view f17 0 rfl _ _, show body2.sl.r_1 c arg17 f17 = _ from loadCell arg17.view f17 1 rfl _ _, show body2.sl.r_2 c arg17 f17 = _ from loadCell arg17.view f17 2 rfl _ _, show body2.sl.r_3 c arg17 f17 = _ from loadCell arg17.view f17 3 rfl _ _, show body2.sl.r_4 c arg17 f17 = _ from loadCell arg17.view f17 4 rfl _ _, show body2.sl.r_5 c arg17 f17 = _ from loadCell arg17.view f17 5 rfl _ _, show body2.sl.r_6 c arg17 f17 = _ from loadCell arg17.view f17 6 rfl _ _, show body2.sl.r_7 c arg17 f17 = _ from loadCell arg17.view f17 7 rfl _ _]
    rfl
  iexists f17; isplitr; · ipureintro; rfl
  iexact H17

set_option maxHeartbeats 4000000 in
/-- Round 3: what the body leaves at a point of block `j`. -/
theorem body3 (c : Dev nD) (i : grid0.Coords) (j : Fin 8) (hj : (i 1).val = j.val) (h1 : ¬ k0_cond1 i = 1#1) (h2 : ¬ k0_cond2 i = 1#1) (h3 : ¬ k0_cond3 i = 1#1) (h4 : k0_cond4 i = 1#1)
    (arg2 : Memref sig .tc .vmem S512x4096 .f32) (harg2 : arg2.IsWhole) (arg3 : Memref sig .tc .vmem S512x4096 .f32) (harg3 : arg3.IsWhole) (arg4 : Memref sig .tc .vmem S4096x8 .bf16) (harg4 : arg4.IsWhole) (arg5 : Memref sig .tc .vmem S4096x34 .f32) (harg5 : arg5.IsWhole) (arg6 : Memref sig .tc .vmem S34x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S512x32 .f32) (harg11 : arg11.IsWhole) (arg12 : Memref sig .tc .vmem S4096x4096 .i8) (harg12 : arg12.IsWhole) (arg13 : Memref sig .tc .vmem S4096x32 .f32) (harg13 : arg13.IsWhole) (arg14 : Memref sig .tc .vmem S4096x32 .i8) (harg14 : arg14.IsWhole) (arg15 : Memref sig .tc .vmem S4096x32 .i8) (harg15 : arg15.IsWhole) (arg16 : Memref sig .tc .smem S8 .f32) (harg16 : arg16.IsWhole) (arg17 : Memref sig .tc .smem S8 .f32) (harg17 : arg17.IsWhole)
    (x2 : Vec F S512x4096 .f32) (x3 : Vec F S512x4096 .f32) (x4 : Vec F S4096x8 .bf16) (x5 : Vec F S4096x34 .f32) (x6 : Vec F S34x32 .f32) (x7 : Vec F S32x32 .f32) (x8 : Vec F S32x32 .f32) (x9 : Vec F S1x32 .f32) (x10 : Vec F S1x32 .f32) (x12 : Vec F S4096x4096 .i8) (x13 : Vec F S4096x32 .f32) (x14 : Vec F S4096x32 .i8) (x15 : Vec F S4096x32 .i8) (x16 : Vec F S8 .f32) (x17 : Vec F S8 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
      ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare ((combine (rowsM x12 j) (fun k => rows32 x14 k) (fun k => x16 (cell k)) (rows32 x13 j) x7)) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ owns (c : Thread nD τ) arg17 fullShare (x17)) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part6_eq_skeleton]; unfold k0_part6_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf12 hf13 hf14 hf15 hf16 hf17
  sl_exec
  sl_step
  have e11 : k0_off11 i = ![512 * j.val, 0] := by rw [k0_off11_eq, hj]
  have e12 : k0_off12 i = ![512 * j.val, 0] := by rw [k0_off12_eq, hj]
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_full]
    simp only [loadW32, loadM arg12.view f12 j e11, load32 arg13.view f13 j e12, load32 arg14.view f14 (off := ![0, 0]) 0 rfl, load32 arg14.view f14 (off := ![512, 0]) 1 rfl, load32 arg14.view f14 (off := ![1024, 0]) 2 rfl, load32 arg14.view f14 (off := ![1536, 0]) 3 rfl, load32 arg14.view f14 (off := ![2048, 0]) 4 rfl, load32 arg14.view f14 (off := ![2560, 0]) 5 rfl, load32 arg14.view f14 (off := ![3072, 0]) 6 rfl, load32 arg14.view f14 (off := ![3584, 0]) 7 rfl, show body3.sl.r c arg16 f16 = _ from loadCell arg16.view f16 0 rfl _ _, show body3.sl.r_1 c arg16 f16 = _ from loadCell arg16.view f16 1 rfl _ _, show body3.sl.r_2 c arg16 f16 = _ from loadCell arg16.view f16 2 rfl _ _, show body3.sl.r_3 c arg16 f16 = _ from loadCell arg16.view f16 3 rfl _ _, show body3.sl.r_4 c arg16 f16 = _ from loadCell arg16.view f16 4 rfl _ _, show body3.sl.r_5 c arg16 f16 = _ from loadCell arg16.view f16 5 rfl _ _, show body3.sl.r_6 c arg16 f16 = _ from loadCell arg16.view f16 6 rfl _ _, show body3.sl.r_7 c arg16 f16 = _ from loadCell arg16.view f16 7 rfl _ _]
    rfl
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists f17; isplitr; · ipureintro; rfl
  iexact H17

end Cert.KernelIdeal.Hand

end
-- ==== Proof.Run.lean ====
/- The kernel's run, over any float operations: what each grid point leaves in the scratch and the result, by the round
   and the block, and from it the run of the whole program. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the rounds compute -/

/-- The first round's point of block `j`. -/
def first (j : Fin 8) : Fin cfg0.N := ⟨j.val, lt_of_lt_of_eq (show j.val < 32 by omega) Gen.N_0.symm⟩

/-- The adjacency rows of block `j` in eight bits, as the first round leaves them; -/
def adjB (j : Fin 8) : IVec S512x4096 8 := k0_pay11 (iblk m c 0 (first j))
/-- the part of block `j`'s embeddings that no round changes; -/
def fixB (j : Fin 8) : FVec F S512x32 .f32 :=
  term (iblk m c 0 (first j)) (iblk m c 1 (first j)) (iblk m c 2 (first j)) (rows34 (iblk m c 3 (first j)) j) (iblk m c 4 (first j))
    (iblk m c 6 (first j)) (iblk m c 7 (first j)) (iblk m c 8 (first j))
/-- and block `j`'s embeddings after round `t`. -/
def emb : ℕ → Fin 8 → FVec F S512x32 .f32
  | 0, j => k0_pay2 (fixB m c j)
  | t + 1, j => combine (adjB m c j) (fun k => quant (emb t k)) (fun k => scale (emb t k)) (fixB m c j) (iblk m c 5 (first j))

/-- What the scratch holds after `n` points: the adjacency and the fixed part of every block met, the first round's
    quantised embeddings until the third round overwrites them, the second round's, the third's. -/
structure Inv (n : ℕ) (x12 : Vec F S4096x4096 .i8) (x13 : Vec F S4096x32 .f32) (x14 x15 : Vec F S4096x32 .i8) (x16 x17 : Vec F S8 .f32) :
    Prop where
  fixed : ∀ k : Fin 8, k.val < n → rowsM x12 k = adjB m c k ∧ rows32 x13 k = fixB m c k
  q0 : ∀ k : Fin 8, k.val < n → n ≤ k.val + 16 → rows32 x14 k = quant (emb m c 0 k) ∧ x16 (cell k) = scale (emb m c 0 k)
  q1 : ∀ k : Fin 8, k.val + 8 < n → rows32 x15 k = quant (emb m c 1 k) ∧ x17 (cell k) = scale (emb m c 1 k)
  q2 : ∀ k : Fin 8, k.val + 16 < n → rows32 x14 k = quant (emb m c 2 k) ∧ x16 (cell k) = scale (emb m c 2 k)

section Steps

variable {m c} {n : ℕ} {x12 : Vec F S4096x4096 .i8} {x13 : Vec F S4096x32 .f32} {x14 x15 : Vec F S4096x32 .i8} {x16 x17 : Vec F S8 .f32}

theorem Inv.start : Inv m c 0 x12 x13 x14 x15 x16 x17 where
  fixed _ h := absurd h (Nat.not_lt_zero _)
  q0 _ h := absurd h (Nat.not_lt_zero _)
  q1 _ h := absurd h (Nat.not_lt_zero _)
  q2 _ h := absurd h (Nat.not_lt_zero _)

/-- The round after the one the scratch holds, at a block the scratch holds the rows of. -/
theorem combine_held {xq : Vec F S4096x32 .i8} {xs : Vec F S8 .f32} {j : Fin 8} {t : ℕ}
    (hf : rowsM x12 j = adjB m c j ∧ rows32 x13 j = fixB m c j)
    (hq : ∀ k : Fin 8, rows32 xq k = quant (emb m c t k) ∧ xs (cell k) = scale (emb m c t k)) :
    combine (rowsM x12 j) (fun k => rows32 xq k) (fun k => xs (cell k)) (rows32 x13 j) (iblk m c 5 (first j)) = emb m c (t + 1) j := by
  rw [hf.1, hf.2, show (fun k => rows32 xq k) = fun k => quant (emb m c t k) from funext fun k => (hq k).1,
    show (fun k => xs (cell k)) = fun k => scale (emb m c t k) from funext fun k => (hq k).2]
  rfl

theorem Inv.step0 (h : Inv m c n x12 x13 x14 x15 x16 x17) {j : Fin 8} (hn : n = j.val) :
    Inv m c (n + 1) (putM x12 j (adjB m c j)) (put32 x13 j (fixB m c j)) (put32 x14 j (quant (emb m c 0 j))) x15
      (putCell x16 j (scale (emb m c 0 j))) x17 where
  fixed k hk := by
    rw [rowsM_put, rows32_put]
    by_cases e : k = j
    · subst e; simp only [if_true, and_self]
    · simp only [if_neg e]
      exact h.fixed k (by have := fun e' => e (Fin.ext e'); omega)
  q0 k hk _ := by
    rw [rows32_put, cell_put]
    by_cases e : k = j
    · subst e; simp only [if_true, and_self]
    · simp only [if_neg e]
      exact h.q0 k (by have := fun e' => e (Fin.ext e'); omega) (by omega)
  q1 k hk := by omega
  q2 k hk := by omega

theorem Inv.held0 (h : Inv m c n x12 x13 x14 x15 x16 x17) {j : Fin 8} (hn : n = 8 + j.val) :
    combine (rowsM x12 j) (fun k => rows32 x14 k) (fun k => x16 (cell k)) (rows32 x13 j) (iblk m c 5 (first j)) = emb m c 1 j :=
  combine_held (h.fixed j (by omega)) fun k => h.q0 k (by omega) (by omega)

theorem Inv.step1 (h : Inv m c n x12 x13 x14 x15 x16 x17) {j : Fin 8} (hn : n = 8 + j.val) :
    Inv m c (n + 1) x12 x13 x14 (put32 x15 j (quant (emb m c 1 j))) x16 (putCell x17 j (scale (emb m c 1 j))) where
  fixed k hk := h.fixed k (by omega)
  q0 k hk _ := h.q0 k (by omega) (by omega)
  q1 k hk := by
    rw [rows32_put, cell_put]
    by_cases e : k = j
    · subst e; simp only [if_true, and_self]
    · simp only [if_neg e]
      exact h.q1 k (by have := fun e' => e (Fin.ext e'); omega)
  q2 k hk := by omega

theorem Inv.held1 (h : Inv m c n x12 x13 x14 x15 x16 x17) {j : Fin 8} (hn : n = 16 + j.val) :
    combine (rowsM x12 j) (fun k => rows32 x15 k) (fun k => x17 (cell k)) (rows32 x13 j) (iblk m c 5 (first j)) = emb m c 2 j :=
  combine_held (h.fixed j (by omega)) fun k => h.q1 k (by omega)

theorem Inv.step2 (h : Inv m c n x12 x13 x14 x15 x16 x17) {j : Fin 8} (hn : n = 16 + j.val) :
    Inv m c (n + 1) x12 x13 (put32 x14 j (quant (emb m c 2 j))) x15 (putCell x16 j (scale (emb m c 2 j))) x17 where
  fixed k hk := h.fixed k (by omega)
  q0 k hk hk' := by
    have e : k ≠ j := by rintro rfl; omega
    rw [rows32_put, cell_put]
    simp only [if_neg e]
    exact h.q0 k (by omega) (by omega)
  q1 k hk := h.q1 k (by omega)
  q2 k hk := by
    rw [rows32_put, cell_put]
    by_cases e : k = j
    · subst e; simp only [if_true, and_self]
    · simp only [if_neg e]
      exact h.q2 k (by have := fun e' => e (Fin.ext e'); omega)

theorem Inv.held2 (h : Inv m c n x12 x13 x14 x15 x16 x17) {j : Fin 8} (hn : n = 24 + j.val) :
    combine (rowsM x12 j) (fun k => rows32 x14 k) (fun k => x16 (cell k)) (rows32 x13 j) (iblk m c 5 (first j)) = emb m c 3 j :=
  combine_held (h.fixed j (by omega)) fun k => h.q2 k (by omega)

theorem Inv.step3 (h : Inv m c n x12 x13 x14 x15 x16 x17) {j : Fin 8} (hn : n = 24 + j.val) :
    Inv m c (n + 1) x12 x13 x14 x15 x16 x17 where
  fixed k hk := h.fixed k (by omega)
  q0 k hk _ := by omega
  q1 k hk := h.q1 k (by omega)
  q2 k hk := h.q2 k (by omega)

end Steps

/-! ## The pipeline's proof data -/

/-- The block and the round of a point. -/
def blockOf (t : Fin cfg0.N) : Fin 8 := ⟨t.val % 8, Nat.mod_lt _ (by omega)⟩

/-- Between two points: the scratch at values `Inv` tells, and the core's generator. -/
def held (n : ℕ) : sProp 𝕄 :=
  iprop(∃ x12 x13 x14 x15 x16 x17, ⌜Inv m c n x12 x13 x14 x15 x16 x17⌝
    ∗ owns (c : Thread nD τ) (Memref.whole cc0_scratch0) fullShare x12 ∗ owns (c : Thread nD τ) (Memref.whole cc0_scratch1) fullShare x13
    ∗ owns (c : Thread nD τ) (Memref.whole cc0_scratch2) fullShare x14 ∗ owns (c : Thread nD τ) (Memref.whole cc0_scratch3) fullShare x15
    ∗ owns (c : Thread nD τ) (Memref.whole cc0_scratch4) fullShare x16 ∗ owns (c : Thread nD τ) (Memref.whole cc0_scratch5) fullShare x17
    ∗ ∃ r, prngReg c r)

/-- The proof data: the arrays as the region finds them; an input's staging buffer at its block, the result's at the
    embeddings of the point's round and block; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t | ⟨8, _⟩ => iblk m c 8 t
    | ⟨9, _⟩ => emb m c (t.val / 8) (blockOf t)
  Φ n := held m c n.val
  q _ := fullShare
  owed _ := 0

theorem A_eq (c : Dev nD) (w : Fin cfg0.W) : (dats m 0 c).A w = V m c (Pipeline.arrRef spec0 w) := by
  dsimp only [dats]

/-- A point's coordinates, the condition its round meets, and that its round stores the result. -/
theorem point_facts : ∀ t : Fin grid0.N, ((grid0.coords t) 1).val = t.val % 8
    ∧ (k0_cond1 (grid0.coords t) = 1#1 ↔ t.val / 8 = 0) ∧ (k0_cond2 (grid0.coords t) = 1#1 ↔ t.val / 8 = 1)
    ∧ (k0_cond3 (grid0.coords t) = 1#1 ↔ t.val / 8 = 2) ∧ (k0_cond4 (grid0.coords t) = 1#1 ↔ t.val / 8 = 3)
    ∧ idle0 9 (grid0.coords t) = false := by decide +kernel

theorem before0 (t : Fin cfg0.N) (d) : (dats m 0 c).before 0 t d = iblk m c 0 t :=
  before0_0_of m (dats m 0 c) (A_eq m c 0) (fun _ => by dsimp only [dats]) t d
theorem before1 (t : Fin cfg0.N) (d) : (dats m 0 c).before 1 t d = iblk m c 1 t :=
  before0_1_of m (dats m 0 c) (A_eq m c 1) (fun _ => by dsimp only [dats]) t d
theorem before2 (t : Fin cfg0.N) (d) : (dats m 0 c).before 2 t d = iblk m c 2 t :=
  before0_2_of m (dats m 0 c) (A_eq m c 2) (fun _ => by dsimp only [dats]) t d
theorem before3 (t : Fin cfg0.N) (d) : (dats m 0 c).before 3 t d = iblk m c 3 t :=
  before0_3_of m (dats m 0 c) (A_eq m c 3) (fun _ => by dsimp only [dats]) t d
theorem before4 (t : Fin cfg0.N) (d) : (dats m 0 c).before 4 t d = iblk m c 4 t :=
  before0_4_of m (dats m 0 c) (A_eq m c 4) (fun _ => by dsimp only [dats]) t d
theorem before5 (t : Fin cfg0.N) (d) : (dats m 0 c).before 5 t d = iblk m c 5 t :=
  before0_5_of m (dats m 0 c) (A_eq m c 5) (fun _ => by dsimp only [dats]) t d
theorem before6 (t : Fin cfg0.N) (d) : (dats m 0 c).before 6 t d = iblk m c 6 t :=
  before0_6_of m (dats m 0 c) (A_eq m c 6) (fun _ => by dsimp only [dats]) t d
theorem before7 (t : Fin cfg0.N) (d) : (dats m 0 c).before 7 t d = iblk m c 7 t :=
  before0_7_of m (dats m 0 c) (A_eq m c 7) (fun _ => by dsimp only [dats]) t d
theorem before8 (t : Fin cfg0.N) (d) : (dats m 0 c).before 8 t d = iblk m c 8 t :=
  before0_8_of m (dats m 0 c) (A_eq m c 8) (fun _ => by dsimp only [dats]) t d
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]
theorem after7 (t : Fin cfg0.N) : (dats m 0 c).after 7 t = iblk m c 7 t := by dsimp only [dats]
theorem after8 (t : Fin cfg0.N) : (dats m 0 c).after 8 t = iblk m c 8 t := by dsimp only [dats]
theorem after9 (t : Fin cfg0.N) : (dats m 0 c).after 9 t = emb m c (t.val / 8) (blockOf t) := by dsimp only [dats]

/-- An operand staged whole is the same at every point; a block of an operand fetched in the first round is that
    round's. -/
theorem const2 (t t' : Fin cfg0.N) : iblk m c 2 t = iblk m c 2 t' := rfl
theorem const3 (t t' : Fin cfg0.N) : iblk m c 3 t = iblk m c 3 t' := rfl
theorem const4 (t t' : Fin cfg0.N) : iblk m c 4 t = iblk m c 4 t' := rfl
theorem const5 (t t' : Fin cfg0.N) : iblk m c 5 t = iblk m c 5 t' := rfl
theorem const6 (t t' : Fin cfg0.N) : iblk m c 6 t = iblk m c 6 t' := rfl
theorem const7 (t t' : Fin cfg0.N) : iblk m c 7 t = iblk m c 7 t' := rfl
theorem const8 (t t' : Fin cfg0.N) : iblk m c 8 t = iblk m c 8 t' := rfl

set_option maxHeartbeats 2000000 in
/-- The body obligation: at each point, the round's body run from the blocks and the scratch. -/
theorem body_obligation : BodyObligation (dats m 0 c) (defs₀ (F := F)) Variants.none () Set.univ := fun t => by
  obtain ⟨hj, hc1, hc2, hc3, hc4, hidle⟩ := point_facts t
  have ht : t.val < 32 := lt_of_lt_of_eq t.isLt Gen.N_0
  have hj' : ((grid0.coords t) 1).val = (blockOf t).val := hj
  rw [bigSep_W0, bigSep_W0]
  simp only [before0, before1, before2, before3, before4, before5, before6, before7, before8,
    after0, after1, after2, after3, after4, after5, after6, after7, after8, after9]
  simp only [hidle]
  rw [show (dats m 0 c).Φ t.castSucc = held m c t.val from rfl, show (dats m 0 c).Φ t.succ = held m c (t.val + 1) from rfl]
  unfold Dat.owesAt Pipeline.owesWithin
  rw [show (dats m 0 c).owed t.castSucc = 0 from rfl, show (dats m 0 c).owed t.succ = 0 from rfl]
  show _ ⊢ wp frame _ Set.univ (bodyAt0 t) _
  unfold held
  iintro ⟨⟨%x12, %x13, %x14, %x15, %x16, %x17, %hI, H12, H13, H14, H15, H16, H17, HR⟩, ⟨%W, %hW, HO⟩, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩⟩
  have hcases : t.val / 8 = 0 ∨ t.val / 8 = 1 ∨ t.val / 8 = 2 ∨ t.val / 8 = 3 := by omega
  rcases hcases with hr | hr | hr | hr
  · have hn : t.val = (blockOf t).val := by show t.val = t.val % 8; omega
    have hfirst : t = first (blockOf t) := Fin.ext hn
    have hstep := hI.step0 hn
    have hadj : adjB m c (blockOf t) = k0_pay11 (iblk m c 0 t) := by unfold adjB; rw [← hfirst]
    have hfix : fixB m c (blockOf t) = term (iblk m c 0 t) (iblk m c 1 t) (iblk m c 2 t) (rows34 (iblk m c 3 t) (blockOf t)) (iblk m c 4 t) (iblk m c 6 t) (iblk m c 7 t) (iblk m c 8 t) := by unfold fixB; rw [← hfirst]
    have hout : emb m c (t.val / 8) (blockOf t) = k0_pay2 (term (iblk m c 0 t) (iblk m c 1 t) (iblk m c 2 t) (rows34 (iblk m c 3 t) (blockOf t)) (iblk m c 4 t) (iblk m c 6 t) (iblk m c 7 t) (iblk m c 8 t)) := by
      rw [hr]; exact congrArg k0_pay2 hfix
    rw [show emb m c 0 (blockOf t) = k0_pay2 (fixB m c (blockOf t)) from rfl, hadj, hfix] at hstep
    iapply (body0 c (grid0.coords t) (blockOf t) hj' (hc1.mpr hr) (fun h => absurd (hr.symm.trans (hc2.mp h)) (by decide)) (fun h => absurd (hr.symm.trans (hc3.mp h)) (by decide)) (fun h => absurd (hr.symm.trans (hc4.mp h)) (by decide)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) x12 x13 x14 x15 x16 x17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H12 H13 H14 H15 H16 H17 HR]
    · iexists _, _, _, _, _, _; isplitr; · ipureintro; exact hstep
      isplitl [H12]; · iexact H12
      isplitl [H13]; · iexact H13
      isplitl [H14]; · iexact H14
      isplitl [H15]; · iexact H15
      isplitl [H16]; · iexact H16
      isplitl [H17]; · iexact H17
      iexact HR
    isplitl [HO]
    · iexists W; isplitr; · ipureintro; exact fun _ _ => Or.inl trivial
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [hout]; iexact H11
  · have hn : t.val = 8 + (blockOf t).val := by show t.val = 8 + t.val % 8; omega
    have hheld := hI.held0 hn
    rw [const5 m c (first (blockOf t)) t] at hheld
    have hstep := hI.step1 hn
    rw [← hheld] at hstep
    have hout := hheld.symm
    rw [show emb m c 1 (blockOf t) = emb m c (t.val / 8) (blockOf t) by rw [hr]] at hout
    iapply (body1 c (grid0.coords t) (blockOf t) hj' (fun h => absurd (hr.symm.trans (hc1.mp h)) (by decide)) (hc2.mpr hr) (fun h => absurd (hr.symm.trans (hc3.mp h)) (by decide)) (fun h => absurd (hr.symm.trans (hc4.mp h)) (by decide)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) x12 x13 x14 x15 x16 x17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H12 H13 H14 H15 H16 H17 HR]
    · iexists _, _, _, _, _, _; isplitr; · ipureintro; exact hstep
      isplitl [H12]; · iexact H12
      isplitl [H13]; · iexact H13
      isplitl [H14]; · iexact H14
      isplitl [H15]; · iexact H15
      isplitl [H16]; · iexact H16
      isplitl [H17]; · iexact H17
      iexact HR
    isplitl [HO]
    · iexists W; isplitr; · ipureintro; exact fun _ _ => Or.inl trivial
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [hout]; iexact H11
  · have hn : t.val = 16 + (blockOf t).val := by show t.val = 16 + t.val % 8; omega
    have hheld := hI.held1 hn
    rw [const5 m c (first (blockOf t)) t] at hheld
    have hstep := hI.step2 hn
    rw [← hheld] at hstep
    have hout := hheld.symm
    rw [show emb m c 2 (blockOf t) = emb m c (t.val / 8) (blockOf t) by rw [hr]] at hout
    iapply (body2 c (grid0.coords t) (blockOf t) hj' (fun h => absurd (hr.symm.trans (hc1.mp h)) (by decide)) (fun h => absurd (hr.symm.trans (hc2.mp h)) (by decide)) (hc3.mpr hr) (fun h => absurd (hr.symm.trans (hc4.mp h)) (by decide)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) x12 x13 x14 x15 x16 x17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H12 H13 H14 H15 H16 H17 HR]
    · iexists _, _, _, _, _, _; isplitr; · ipureintro; exact hstep
      isplitl [H12]; · iexact H12
      isplitl [H13]; · iexact H13
      isplitl [H14]; · iexact H14
      isplitl [H15]; · iexact H15
      isplitl [H16]; · iexact H16
      isplitl [H17]; · iexact H17
      iexact HR
    isplitl [HO]
    · iexists W; isplitr; · ipureintro; exact fun _ _ => Or.inl trivial
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [hout]; iexact H11
  · have hn : t.val = 24 + (blockOf t).val := by show t.val = 24 + t.val % 8; omega
    have hheld := hI.held2 hn
    rw [const5 m c (first (blockOf t)) t] at hheld
    have hstep := hI.step3 hn
    have hout := hheld.symm
    rw [show emb m c 3 (blockOf t) = emb m c (t.val / 8) (blockOf t) by rw [hr]] at hout
    iapply (body3 c (grid0.coords t) (blockOf t) hj' (fun h => absurd (hr.symm.trans (hc1.mp h)) (by decide)) (fun h => absurd (hr.symm.trans (hc2.mp h)) (by decide)) (fun h => absurd (hr.symm.trans (hc3.mp h)) (by decide)) (hc4.mpr hr) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) x12 x13 x14 x15 x16 x17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    isplitl [H12 H13 H14 H15 H16 H17 HR]
    · iexists _, _, _, _, _, _; isplitr; · ipureintro; exact hstep
      isplitl [H12]; · iexact H12
      isplitl [H13]; · iexact H13
      isplitl [H14]; · iexact H14
      isplitl [H15]; · iexact H15
      isplitl [H16]; · iexact H16
      isplitl [H17]; · iexact H17
      iexact HR
    isplitl [HO]
    · iexists W; isplitr; · ipureintro; exact fun _ _ => Or.inl trivial
      iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [hout]; iexact H11

/-! ## The launch -/

theorem enter : Pipeline.ΦA spec0 c ⊢ (dats m 0 c).Φ 0 := by
  rw [show (dats m 0 c).Φ 0 = held m c 0 from rfl]
  unfold Pipeline.ΦA held
  rw [scopedRest0_eq]
  simp only [owns_whole_eq]
  iintro ⟨⟨⟨%f0, H0⟩, ⟨%f1, H1⟩, ⟨%f2, H2⟩, ⟨%f3, H3⟩, ⟨%f4, H4⟩, ⟨%f5, H5⟩⟩, HR⟩
  iexists (Memref.whole cc0_scratch0).view.read (Elt F) f0, (Memref.whole cc0_scratch1).view.read (Elt F) f1, (Memref.whole cc0_scratch2).view.read (Elt F) f2, (Memref.whole cc0_scratch3).view.read (Elt F) f3, (Memref.whole cc0_scratch4).view.read (Elt F) f4, (Memref.whole cc0_scratch5).view.read (Elt F) f5; isplitr; · ipureintro; exact Inv.start
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexact HR

theorem leave : (dats m 0 c).Φ (Fin.last cfg0.N) ⊢ Pipeline.ΦA spec0 c := by
  rw [show (dats m 0 c).Φ (Fin.last cfg0.N) = held m c cfg0.N from rfl]
  unfold Pipeline.ΦA held
  rw [scopedRest0_eq]
  simp only [owns_whole_eq]
  iintro ⟨%x12, %x13, %x14, %x15, %x16, %x17, -, ⟨%f0, -, H0⟩, ⟨%f1, -, H1⟩, ⟨%f2, -, H2⟩, ⟨%f3, -, H3⟩, ⟨%f4, -, H4⟩, ⟨%f5, -, H5⟩, HR⟩
  isplitr [HR]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact HR

/-- What a run ends in: every array at what the write-backs leave, the host lines after the region run, and every
    semaphore counter at zero. -/
def Ends (r : PUnit × MemSt nD τ sig (Elt F)) : Prop :=
  Pipeline.FramePost cfgs (dats m) 0 (Pipeline.afterTail₀ cfgs (dats m) 0 (V0 m) [hostOps1]) r ∧ r.2.sem = fun _ => 0

theorem run_main : θ_run defs (onTc (τ := τ) (main (F := F))) (s₀ m ρ) (Ends m) :=
  Pipeline.θ_run_frame_around_track cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (enter m) (leave m) (Ends m) (fun _ h => h)

/-- Every argument array ends as launched. -/
theorem Ends.args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h.1 c).2 main_arg0 (Pipeline.mem_restRefs_of main_arg0 (by decide) (by decide))).trans (W_main_arg0 m (dats m) c),
   ((h.1 c).1 0).trans (((dats m 0 c).arrAt_in 0 rfl _).trans ((A_eq m c 0).trans (V_main_arg1 m c))),
   ((h.1 c).1 1).trans (((dats m 0 c).arrAt_in 1 rfl _).trans ((A_eq m c 1).trans (V_main_arg2 m c))),
   ((h.1 c).2 main_arg3 (Pipeline.mem_restRefs_of main_arg3 (by decide) (by decide))).trans (W_main_arg3 m (dats m) c),
   ((h.1 c).2 main_arg4 (Pipeline.mem_restRefs_of main_arg4 (by decide) (by decide))).trans (W_main_arg4 m (dats m) c),
   ((h.1 c).2 main_arg5 (Pipeline.mem_restRefs_of main_arg5 (by decide) (by decide))).trans (W_main_arg5 m (dats m) c),
   ((h.1 c).2 main_arg6 (Pipeline.mem_restRefs_of main_arg6 (by decide) (by decide))).trans (W_main_arg6 m (dats m) c),
   ((h.1 c).2 main_arg7 (Pipeline.mem_restRefs_of main_arg7 (by decide) (by decide))).trans (W_main_arg7 m (dats m) c),
   ((h.1 c).2 main_arg8 (Pipeline.mem_restRefs_of main_arg8 (by decide) (by decide))).trans (W_main_arg8 m (dats m) c),
   ((h.1 c).2 main_arg9 (Pipeline.mem_restRefs_of main_arg9 (by decide) (by decide))).trans (W_main_arg9 m (dats m) c),
   ((h.1 c).2 main_arg10 (Pipeline.mem_restRefs_of main_arg10 (by decide) (by decide))).trans (W_main_arg10 m (dats m) c)⟩

end Cert.KernelIdeal.Hand

end
-- ==== Proof.SameText.lean ====
/- The kernel and its idealization are one text: their tables of bodies and their mains are equal. -/
module

public import proofs.«01_k».proof.Proof.Gen.Kernel
public import proofs.«01_k».proof.Proof.Gen.KernelIdeal

@[expose] public section

set_option maxRecDepth 100000

noncomputable section

namespace Cert.Proof

open Idealize.ShloMosaic Idealize.SL.Sem

variable {F : FTy → Type} [FloatOps F]

theorem body_same (t : Fin 32) (s) :
    Cert.Kernel.defs₀ (F := F) .tc 0 (t, s) = Cert.KernelIdeal.defs₀ (F := F) .tc 0 (t, s) := rfl

theorem label_same (ℓ : Fin 1) (a) : Cert.Kernel.defs₀ (F := F) .tc ℓ a = Cert.KernelIdeal.defs₀ (F := F) .tc ℓ a := by
  obtain rfl : ℓ = 0 := Subsingleton.elim _ _
  exact body_same a.1 a.2

theorem bodies_same : Cert.Kernel.defs₀ (F := F) = Cert.KernelIdeal.defs₀ (F := F) := by
  funext p ℓ a
  cases p with
  | tc => exact label_same ℓ a
  | scScalar _ => rfl
  | scVector _ _ => rfl

theorem defs_same : Cert.Kernel.defs (F := F) = Cert.KernelIdeal.defs (F := F) :=
  congrArg (Pipeline.defs (Cert.KernelIdeal.pcfgs (F := F))) bodies_same

set_option maxHeartbeats 2000000 in
theorem main_same : Cert.Kernel.main (F := F) = Cert.KernelIdeal.main (F := F) := by
  funext c
  delta Cert.Kernel.main Cert.KernelIdeal.main
  rfl

end Cert.Proof

end
-- ==== Proof.Frames.lean ====
/- The frames: each program runs to its end, leaves its arguments as they were and every counter at zero. The kernel
   and its idealization have one text, so one run proves the frames of both. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_graph_inputs
public import proofs.«01_k».proof.Proof.Run
public import proofs.«01_k».proof.Proof.SameText
public import Idealize.ShloMosaic.Lib.Quiescent

@[expose] public section

set_option maxRecDepth 16384

noncomputable section

namespace Cert.KernelIdeal.Hand

open Cert.KernelIdeal Cert.KernelIdeal.Gen Idealize.ShloMosaic Idealize.SL.Sem

/-- The kernel's frame over any float operations. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10))
      ∧ r.2.sem = fun _ => 0 :=
  (θ_run defs _ _).mono (fun _ h => ⟨fun c => Ends.args m h c, h.2⟩) (run_main m ρ)

end Cert.KernelIdeal.Hand

namespace Cert.Proof

open Idealize.ShloMosaic Idealize.SL.Sem

/-- The kernel at the machine's words. -/
theorem frame_kernel : Cert.quiescent_Kernel := by
  intro m ρ _
  rw [defs_same, main_same]
  exact Cert.KernelIdeal.Hand.frame (F := Bits) m ρ

/-- The kernel read over the extended reals. -/
theorem frame_ideal : Cert.quiescent_KernelIdeal := fun m ρ _ => Cert.KernelIdeal.Hand.frame m ρ

theorem frame_ideal_pre : Cert.quiescent_KernelIdeal_pre_graph_inputs := fun m ρ _ => Cert.KernelIdeal.Hand.frame m ρ

/-- The reference: it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

theorem frame_reference_pre : Cert.quiescent_ReferenceIdeal_pre_graph_inputs := fun m ρ _ =>
  (θ_run Cert.ReferenceIdeal.defs _ _).mono
    (fun r h => ⟨fun c => (h c).2, sem_eq_zero_of_no_sems (by decide) r.2⟩)
    (Cert.ReferenceIdeal.Value.run m ρ)

end Cert.Proof

end
-- ==== Proof.Algebra.lean ====
/- Arithmetic over the extended reals that both programs are read through: sums of nonnegative terms times a factor, the
   constants' values, and the 8-bit code of a nonnegative value below its group's largest. -/
module

public import Idealize.ShloMosaic.PureOps.Ideal.Laws
public import Idealize.ShloMosaic.Lib.ValueIdx

@[expose] public section

noncomputable section

namespace Cert.Algebra

open Idealize.ShloMosaic

/-! ## Sums and factors -/

/-- A factor moves into a sum of nonnegative terms. -/
theorem sum_mul_nonneg {ι : Type} (s : Finset ι) (f : ι → EReal) (h : ∀ i ∈ s, 0 ≤ f i) (y : EReal) :
    (∑ i ∈ s, f i) * y = ∑ i ∈ s, f i * y := by
  classical
  induction s using Finset.induction_on with
  | empty => simp
  | insert a s ha ih =>
    rw [Finset.sum_insert ha, Finset.sum_insert ha,
      EReal.right_distrib_of_nonneg (h a (Finset.mem_insert_self a s))
        (Finset.sum_nonneg fun i hi => h i (Finset.mem_insert_of_mem hi)),
      ih fun i hi => h i (Finset.mem_insert_of_mem hi)]

/-- A nonnegative real factor moves into any sum. -/
theorem mul_sum_real {ι : Type} (s : Finset ι) (f : ι → EReal) {y : EReal} (h0 : 0 ≤ y) (ht : y ≠ ⊤) :
    y * (∑ i ∈ s, f i) = ∑ i ∈ s, y * f i := by
  classical
  induction s using Finset.induction_on with
  | empty => simp
  | insert a s ha ih =>
    rw [Finset.sum_insert ha, Finset.sum_insert ha, EReal.left_distrib_of_nonneg_of_ne_top h0 ht, ih]

/-- A sum of finite nonnegative terms is finite. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact (EReal.add_lt_top (h a (Finset.mem_insert_self a s)) (ih fun i hi => h i (Finset.mem_insert_of_mem hi))).ne

/-- A sum of integers, read as an extended real. -/
theorem coe_sum_int {ι : Type} (s : Finset ι) (f : ι → ℤ) :
    (((∑ i ∈ s, f i : ℤ) : ℝ) : EReal) = ∑ i ∈ s, ((f i : ℝ) : EReal) := by
  classical
  induction s using Finset.induction_on with
  | empty => simp
  | insert a s ha ih => rw [Finset.sum_insert ha, Finset.sum_insert ha, ← ih]; push_cast; rfl

/-- The rectified edge value: a nonnegative real weight moves out of the rectifier. -/
theorem relu_mul {w : EReal} (h0 : 0 ≤ w) (x : EReal) : max (w * x) 0 = w * max x 0 := by
  rcases le_total x 0 with h | h
  · rw [max_eq_right h, mul_zero, max_eq_right]
    exact EReal.mul_nonpos_iff.2 (Or.inl ⟨h0, h⟩)
  · rw [max_eq_left h, max_eq_left (mul_nonneg h0 h)]

/-! ## The constants -/

theorem word_127 : Ideal.ofBits .f32 0x42FE0000#32 = ((127 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_bot : Ideal.ofBits .f32 0xFF800000#32 = ⊥ := by simp [Ideal.ofBits, Ideal.ieee]

theorem word_top : Ideal.ofBits .f32 0x7F800000#32 = ⊤ := by simp [Ideal.ofBits, Ideal.ieee]

theorem word_tiny_pos : 0 < Ideal.ofBits .f32 0x0DA24260#32 := by
  simp [Ideal.ofBits, Ideal.ieee, -EReal.coe_mul]

/-! ## The 8-bit code -/

/-- What is rounded down: the value scaled so that the group's largest is 127, and a half added. -/
def level (e mx : EReal) : EReal := e * Ideal.div (Ideal.ofBits .f32 0x42FE0000#32) mx + Ideal.ofBits .f32 0x3F000000#32

theorem level_real {e mx : EReal} (h0 : 0 ≤ e) (h1 : e ≤ mx) (hm : 0 < mx) :
    ∃ r : ℝ, 0 ≤ r ∧ r ≤ 255 / 2 ∧ level e mx = (r : EReal) := by
  unfold level
  rw [word_127, word_half]
  induction mx using EReal.rec with
  | bot => exact absurd hm (by simp)
  | top =>
    refine ⟨1 / 2, by norm_num, by norm_num, ?_⟩
    simp [Ideal.div]
  | coe m =>
    have hm' : 0 < m := by exact_mod_cast hm
    have he : e ≠ ⊤ := fun h => by rw [h] at h1; exact absurd h1 (by simp)
    have he' : e ≠ ⊥ := fun h => by rw [h] at h0; exact absurd h0 (by simp)
    lift e to ℝ using ⟨he, he'⟩
    have h0' : 0 ≤ e := by exact_mod_cast h0
    have h1' : e ≤ m := by exact_mod_cast h1
    refine ⟨e * (127 * (1 / m)) + 1 / 2, by positivity, ?_, ?_⟩
    · have : e * (127 * (1 / m)) ≤ 127 := by
        rw [show e * (127 * (1 / m)) = 127 * (e / m) by ring]
        have := (div_le_one hm').2 h1'
        linarith
      linarith
    · rw [Ideal.div_coe hm'.ne']
      push_cast
      rfl

/-- The code as an integer. -/
def code (e mx : EReal) : ℤ := (Ideal.fptosi 32 (level e mx)).toInt

theorem code_facts {e mx : EReal} (h0 : 0 ≤ e) (h1 : e ≤ mx) (hm : 0 < mx) :
    0 ≤ code e mx ∧ code e mx ≤ 127 ∧ (Ideal.fptosi 8 (level e mx)).toInt = code e mx := by
  obtain ⟨r, hr0, hr1, hr⟩ := level_real h0 h1 hm
  unfold code
  rw [hr]
  have hf0 : 0 ≤ ⌊r⌋ := Int.floor_nonneg.2 hr0
  have hf1 : ⌊r⌋ ≤ 127 := by
    have : ⌊r⌋ < 128 := Int.floor_lt.2 (by push_cast; linarith)
    omega
  have e32 : (Ideal.fptosi 32 (r : EReal)).toInt = ⌊r⌋ := by
    unfold Ideal.fptosi
    rw [Ideal.toIntClamped_coe, if_pos hr0, BitVec.toInt_ofInt, max_eq_right (by norm_num; omega)]
    rw [min_eq_right (by norm_num; omega)]
    apply Int.bmod_eq_of_le <;> norm_num <;> omega
  have e8 : (Ideal.fptosi 8 (r : EReal)).toInt = ⌊r⌋ := by
    unfold Ideal.fptosi
    rw [Ideal.toIntClamped_coe, if_pos hr0, BitVec.toInt_ofInt, max_eq_right (by norm_num; omega)]
    rw [min_eq_right (by norm_num; omega)]
    apply Int.bmod_eq_of_le <;> norm_num <;> omega
  rw [e32, e8]
  exact ⟨hf0, hf1, rfl⟩

/-- The code of zero is zero, whatever positive value the group's largest is floored at. -/
theorem code_zero (mx : EReal) : code 0 mx = 0 := by
  unfold code level
  rw [zero_mul, zero_add, word_half]
  unfold Ideal.fptosi
  rw [Ideal.toIntClamped_coe, if_pos (by norm_num), show ⌊(1 / 2 : ℝ)⌋ = 0 by norm_num]
  decide

/-- An adjacency entry, zero or one, as the 8-bit word it is kept as. -/
theorem mask_word {a : EReal} (h : a = 0 ∨ a = 1) :
    ((((Ideal.fptosi 8 a).toInt : ℝ)) : EReal) = a ∧ 0 ≤ (Ideal.fptosi 8 a).toInt := by
  rcases h with rfl | rfl
  · have : Ideal.fptosi 8 (0 : EReal) = 0#8 := by
      rw [← EReal.coe_zero]; unfold Ideal.fptosi; rw [Ideal.toIntClamped_coe]; norm_num
    rw [this]; simp
  · have : Ideal.fptosi 8 (1 : EReal) = 1#8 := by
      rw [← EReal.coe_one]; unfold Ideal.fptosi; rw [Ideal.toIntClamped_coe]; norm_num
    rw [this]; simp

end Cert.Algebra

end
-- ==== Proof.Net.lean ====
/- The network's arithmetic at indices, over the extended reals: the rounds of message passing with the per-group 8-bit
   code, as the reference states them. -/
module

public import proofs.«01_k».proof.Proof.Algebra

@[expose] public section

noncomputable section

namespace Cert.Algebra

open Idealize.ShloMosaic

/-- The arrays of the network, at indices. -/
structure Net where
  x : Fin 2 → Fin 4096 → Fin 17 → EReal
  a : Fin 4096 → Fin 4096 → EReal
  w : Fin 4096 → Fin 4096 → EReal
  w1 : Fin 16 → Fin 17 → EReal
  b1 : Fin 16 → EReal
  w2 : Fin 16 → Fin 16 → EReal
  b2 : Fin 16 → EReal
  w3 : Fin 16 → Fin 16 → EReal
  b3 : Fin 16 → EReal
  w4 : Fin 16 → EReal
  b4 : Fin 16 → EReal

/-- What the claim supposes of them: an adjacency of zeros and ones, finite nonnegative weights, no edge bias. -/
structure Net.Good (N : Net) : Prop where
  adj : ∀ v u, N.a v u = 0 ∨ N.a v u = 1
  nonneg : ∀ v u, 0 ≤ N.w v u
  finite : ∀ v u, N.w v u ≠ ⊤
  bias : ∀ k, N.b4 k = 0

/-- The embeddings of both graphs. -/
abbrev Emb : Type := Fin 2 → Fin 4096 → Fin 16 → EReal

/-- Node `r` of group `j`. -/
def node (j : Fin 8) (r : Fin 512) : Fin 4096 := ⟨512 * j.val + r.val, by omega⟩

/-- The group of a node, and its place there. -/
def group (u : Fin 4096) : Fin 8 := ⟨u.val / 512, by omega⟩
def place (u : Fin 4096) : Fin 512 := ⟨u.val % 512, by omega⟩

theorem node_group (u : Fin 4096) : node (group u) (place u) = u := by
  apply Fin.ext; simp only [node, group, place]; omega
theorem group_node (j : Fin 8) (r : Fin 512) : group (node j r) = j := by
  apply Fin.ext; simp only [node, group]; omega
theorem place_node (j : Fin 8) (r : Fin 512) : place (node j r) = r := by
  apply Fin.ext; simp only [node, place]; omega

/-- Nodes are groups' places. -/
def nodeEquiv : Fin 8 × Fin 512 ≃ Fin 4096 where
  toFun p := node p.1 p.2
  invFun u := (group u, place u)
  left_inv p := by simp only [group_node, place_node]
  right_inv u := node_group u

theorem sum_nodes (f : Fin 4096 → EReal) : ∑ u, f u = ∑ j : Fin 8, ∑ r : Fin 512, f (node j r) := by
  rw [← Fintype.sum_prod_type', ← nodeEquiv.sum_comp f]; rfl

/-- The largest entry of a group, floored at a small positive constant. -/
def top (E : Emb) (j : Fin 8) : EReal :=
  max (⨆ (b : Fin 2) (r : Fin 512) (d : Fin 16), E b (node j r) d) (Ideal.ofBits .f32 0x0DA24260#32)

theorem top_pos (E : Emb) (j : Fin 8) : 0 < top E j := lt_of_lt_of_le word_tiny_pos (le_max_right _ _)

theorem le_top (E : Emb) (j : Fin 8) (b : Fin 2) (r : Fin 512) (d : Fin 16) : E b (node j r) d ≤ top E j :=
  le_max_of_le_left (le_iSup_of_le b (le_iSup_of_le r (le_iSup_of_le d le_rfl)))

theorem le_top' (E : Emb) (b : Fin 2) (u : Fin 4096) (d : Fin 16) : E b u d ≤ top E (group u) := by
  have h := le_top E (group u) b (place u) d
  rwa [node_group] at h

/-- The step of a group's code. -/
def step (E : Emb) (j : Fin 8) : EReal := top E j * Ideal.ofBits .f32 0x3C010204#32

/-- An entry as its code stands for it. -/
def coded (E : Emb) (b : Fin 2) (u : Fin 4096) (d : Fin 16) : EReal :=
  ((code (E b u d) (top E (group u)) : ℝ) : EReal) * step E (group u)

/-- The sum over a node's neighbours. -/
def near (N : Net) (E : Emb) (b : Fin 2) (v : Fin 4096) (k : Fin 16) : EReal := ∑ u, coded E b u k * N.a v u

/-- The weights' sum over a node's edges, rectified edge by edge. -/
def edges (N : Net) (v : Fin 4096) (k : Fin 16) : EReal := ∑ u, N.a v u * max (N.w v u * N.w4 k + N.b4 k) 0

/-- The terms that no round changes. -/
def feature (N : Net) (b : Fin 2) (v : Fin 4096) (d : Fin 16) : EReal := (∑ f, N.x b v f * N.w1 d f) + N.b1 d
def weight (N : Net) (v : Fin 4096) (d : Fin 16) : EReal := (∑ k, edges N v k * N.w3 d k) + N.b3 d

/-- One round. -/
def next (N : Net) (E : Emb) : Emb := fun b v d =>
  max ((feature N b v d + ((∑ k, near N E b v k * N.w2 d k) + N.b2 d)) + weight N v d) 0

/-- The embeddings after `t` rounds, from zero. -/
def rounds (N : Net) : ℕ → Emb
  | 0 => fun _ _ _ => 0
  | t + 1 => next N (rounds N t)

theorem rounds_nonneg (N : Net) (t : ℕ) (b : Fin 2) (u : Fin 4096) (d : Fin 16) : 0 ≤ rounds N t b u d := by
  cases t with
  | zero => exact le_rfl
  | succ t => exact le_max_right _ _

/-! ## The same, in the order the kernel computes it -/

/-- The sum of a node's edge weights. -/
def degree (N : Net) (v : Fin 4096) : EReal := ∑ u, N.a v u * N.w v u

/-- The unchanging terms as the kernel adds them: the rectifier and the weights' matrix once, then one factor per node. -/
def still (N : Net) (b : Fin 2) (v : Fin 4096) (d : Fin 16) : EReal :=
  ((∑ f, N.x b v f * N.w1 d f) + ((N.b1 d + N.b2 d) + N.b3 d)) + degree N v * ∑ k, max (N.w4 k) 0 * N.w3 d k

theorem weight_eq (N : Net) (h : N.Good) (v : Fin 4096) (d : Fin 16) :
    weight N v d = degree N v * (∑ k, max (N.w4 k) 0 * N.w3 d k) + N.b3 d := by
  have hs : ∀ u ∈ (Finset.univ : Finset (Fin 4096)), 0 ≤ N.a v u * N.w v u := fun u _ => by
    rcases h.adj v u with e | e <;> rw [e]
    · simp
    · rw [one_mul]; exact h.nonneg v u
  have ht : ∀ u ∈ (Finset.univ : Finset (Fin 4096)), N.a v u * N.w v u ≠ ⊤ := fun u _ => by
    rcases h.adj v u with e | e <;> rw [e]
    · simp
    · rw [one_mul]; exact h.finite v u
  have he : ∀ k, edges N v k = degree N v * max (N.w4 k) 0 := fun k => by
    unfold edges degree
    rw [sum_mul_nonneg _ _ hs]
    refine Finset.sum_congr rfl fun u _ => ?_
    rw [h.bias k, add_zero, relu_mul (h.nonneg v u), mul_assoc]
  unfold weight
  rw [mul_sum_real _ _ (y := degree N v) (Finset.sum_nonneg hs) (sum_ne_top _ _ ht)]
  simp only [he, mul_assoc]

/-- One round from the unchanging terms. -/
theorem next_eq (N : Net) (h : N.Good) (E : Emb) (b : Fin 2) (v : Fin 4096) (d : Fin 16) :
    next N E b v d = max (still N b v d + ∑ k, near N E b v k * N.w2 d k) 0 := by
  unfold next still feature
  rw [weight_eq N h]
  congr 1
  ac_rfl

/-- In the first round there is nothing to add. -/
theorem first_eq (N : Net) (h : N.Good) (b : Fin 2) (v : Fin 4096) (d : Fin 16) :
    rounds N 1 b v d = max (still N b v d) 0 := by
  show next N _ b v d = _
  rw [next_eq N h]
  have : ∀ k, near N (rounds N 0) b v k = 0 := fun k => by
    unfold near
    refine Finset.sum_eq_zero fun u _ => ?_
    unfold coded
    rw [show rounds N 0 b u k = 0 from rfl, code_zero]
    simp
  simp only [this, zero_mul, Finset.sum_const_zero, add_zero]

/-- The neighbours' sum group by group: an integer sum of 8-bit products, then the group's step. -/
theorem near_eq (N : Net) (h : N.Good) (E : Emb) (hE : ∀ b u d, 0 ≤ E b u d) (b : Fin 2) (v : Fin 4096) (k : Fin 16) :
    near N E b v k = ∑ j : Fin 8, (((∑ r : Fin 512, (Ideal.fptosi 8 (N.a v (node j r))).toInt
      * (Ideal.fptosi 8 (level (E b (node j r) k) (top E j))).toInt : ℤ) : ℝ) : EReal) * step E j := by
  unfold near
  rw [sum_nodes]
  refine Finset.sum_congr rfl fun j _ => ?_
  have hc := fun r => code_facts (hE b (node j r) k) (le_top E j b r k) (top_pos E j)
  have hm := fun r => mask_word (h.adj v (node j r))
  rw [coe_sum_int, sum_mul_nonneg]
  · refine Finset.sum_congr rfl fun r _ => ?_
    unfold coded
    rw [group_node, (hc r).2.2]
    push_cast
    rw [(hm r).1]
    ac_rfl
  · intro r _
    have : 0 ≤ (Ideal.fptosi 8 (N.a v (node j r))).toInt * (Ideal.fptosi 8 (level (E b (node j r) k) (top E j))).toInt := by
      rw [(hc r).2.2]; exact mul_nonneg (hm r).2 (hc r).1
    exact_mod_cast this

end Cert.Algebra

end
-- ==== Proof.KerValue.lean ====
/- What the kernel computes at a block, read at an index over the extended reals. -/
module

public import proofs.«01_k».proof.Proof.Net
public import proofs.«01_k».proof.Proof.Spec
public import Idealize.ShloMosaic.Lib.Pipeline.ValueKit
public import Idealize.ShloMosaic.Lib.Tactic.CleanTypes
public import Idealize.ShloMosaic.Lib.IntMxu

@[expose] public section

set_option maxRecDepth 16384

noncomputable section

namespace Cert.KernelIdeal.Hand

open Cert.KernelIdeal Cert.KernelIdeal.Gen Cert.Algebra
open Idealize.ShloMosaic

/-- Column `d` of graph `b`. -/
def col (b : Fin 2) (d : Fin 16) : Fin 32 := ⟨16 * b.val + d.val, by omega⟩

/-- Columns are graphs' columns. -/
def colEquiv : Fin 2 × Fin 16 ≃ Fin 32 where
  toFun p := col p.1 p.2
  invFun c := (⟨c.val / 16, by omega⟩, ⟨c.val % 16, by omega⟩)
  left_inv p := by
    obtain ⟨b, d⟩ := p
    refine Prod.ext (Fin.ext ?_) (Fin.ext ?_) <;> simp only [col] <;> omega
  right_inv c := by apply Fin.ext; simp only [col]; omega

theorem sum_cols (f : Fin 32 → EReal) : ∑ c, f c = ∑ b : Fin 2, ∑ d : Fin 16, f (col b d) := by
  rw [← Fintype.sum_prod_type', ← colEquiv.sum_comp f]; rfl

/-- The features' columns: feature `f` of graph `b`. -/
def fcol (b : Fin 2) (f : Fin 17) : Fin 34 := ⟨17 * b.val + f.val, by omega⟩

def fcolEquiv : Fin 2 × Fin 17 ≃ Fin 34 where
  toFun p := fcol p.1 p.2
  invFun c := (⟨c.val / 17, by omega⟩, ⟨c.val % 17, by omega⟩)
  left_inv p := by
    obtain ⟨b, d⟩ := p
    refine Prod.ext (Fin.ext ?_) (Fin.ext ?_) <;> simp only [fcol] <;> omega
  right_inv c := by apply Fin.ext; simp only [fcol]; omega

theorem sum_fcols (f : Fin 34 → EReal) : ∑ c, f c = ∑ b : Fin 2, ∑ d : Fin 17, f (fcol b d) := by
  rw [← Fintype.sum_prod_type', ← fcolEquiv.sum_comp f]; rfl

/-- Against a matrix of two diagonal blocks, only one graph's terms stay. -/
theorem sum_diag {n : ℕ} (X : Fin 2 → Fin n → EReal) (W : Fin n → EReal) (b : Fin 2) :
    ∑ g : Fin 2, ∑ k : Fin n, X g k * (if g = b then W k else 0) = ∑ k, X b k * W k := by
  rw [Finset.sum_eq_single b]
  · simp
  · intro g _ hg
    simp [hg]
  · simp

/-- An integer product of a block of the mask and the block's codes. -/
theorem dot_toInt (lhs : IVec S512x512 8) (rhs : IVec S512x32 8) (r : Fin 512) (c : Fin 32) :
    (matmulI8 IntMxuNumerics.v7x dot_S512x512_S512x32_S512x32_1_0_0_1_n_n lhs rhs (constantI S512x32 32 0#32) (ix2 r c)).toInt
      = ∑ k : Fin 512, (lhs (ix2 r k)).toInt * (rhs (ix2 k c)).toInt := by
  rw [matmulI8_toInt _ _ _ _ _ _ rfl ((absDotI8_le_numel _ _ _ _).trans (by decide))]
  unfold dotI8
  refine Fintype.sum_equiv (ValueIdx.contrEquiv1 dot_S512x512_S512x32_S512x32_1_0_0_1_n_n 512 rfl rfl) _ _ fun k => ?_
  congr 2
  · congr 1; funext a; fin_cases a <;> rfl
  · congr 1; funext a; fin_cases a <;> rfl

/-- The same at the columns of group `j`. -/
theorem dot_group (mk : Vec Ideal S512x4096 .i8) (q : Vec Ideal S512x32 .i8) (o : ℕ) (hs : S512x4096.Slices ![0, o] S512x512)
    (j : Fin 8) (ho : o = 512 * j.val) (r : Fin 512) (c : Fin 32) :
    (FloatOps.sitofp (F := Ideal) .f32 (matmulI8 IntMxuNumerics.v7x dot_S512x512_S512x32_S512x32_1_0_0_1_n_n
      (extractStridedSlice S512x512 ![0, o] mk hs) q (constantI S512x32 32 0#32) (ix2 r c)) : EReal)
      = (((∑ k : Fin 512, (mk (ix2 r (node j k))).toInt * (q (ix2 k c)).toInt : ℤ) : ℝ) : EReal) := by
  refine (congrArg (fun z : ℤ => ((z : ℝ) : EReal)) ((dot_toInt _ q r c).trans (Finset.sum_congr rfl fun k _ => ?_)))
  congr 2
  subst ho
  show mk _ = mk _
  congr 1
  funext a
  fin_cases a
  · exact Fin.ext (Nat.zero_add _)
  · rfl

theorem largest_apply (e : FVec Ideal S512x32 .f32) (E : Emb) (j : Fin 8)
    (h : ∀ b r d, e (ix2 r (col b d)) = E b (node j r) d) : largest e = top E j := by
  unfold largest
  pointwise
  unfold top
  congr 1
  refine eq_of_forall_ge_iff fun x => ?_
  rw [Finset.fold_max_le, word_bot]
  simp only [bot_le, true_and, iSup_le_iff, Finset.mem_univ]
  constructor
  · intro hc b r d
    rw [← h]
    exact hc (r, col b d) trivial
  · intro hc p _
    have := h (colEquiv.symm p.2).1 p.1 (colEquiv.symm p.2).2
    rw [show col (colEquiv.symm p.2).1 (colEquiv.symm p.2).2 = p.2 from colEquiv.apply_symm_apply p.2] at this
    rw [this]
    exact hc _ _ _

theorem quant_apply (e : FVec Ideal S512x32 .f32) (r : Fin 512) (c : Fin 32) :
    quant e (ix2 r c) = Ideal.fptosi 8 (level (e (ix2 r c)) (largest e)) := by
  unfold quant k0_pay6 level
  pointwise
  rfl

theorem scale_apply (e : FVec Ideal S512x32 .f32) : scale e = largest e * Ideal.ofBits .f32 0x3C010204#32 := rfl

theorem first_apply (e : FVec Ideal S512x32 .f32) (r : Fin 512) (c : Fin 32) : k0_pay2 e (ix2 r c) = max (e (ix2 r c)) 0 := by
  unfold k0_pay2
  pointwise

theorem mask_apply (x : Vec Ideal S512x4096 .f32) (r : Fin 512) (u : Fin 4096) :
    k0_pay11 (F := Ideal) x (ix2 r u) = Ideal.fptosi 8 (x (ix2 r u)) := by
  unfold k0_pay11
  pointwise
  rfl

/-- A block's unchanging part is `still`. -/
theorem term_apply (N : Net) (j : Fin 8) (x2 x3 : Vec Ideal S512x4096 .f32) (x4 : Vec Ideal S4096x8 .bf16) (x5 : Vec Ideal S512x34 .f32)
    (x6 : Vec Ideal S34x32 .f32) (x8 : Vec Ideal S32x32 .f32) (x9 x10 : Vec Ideal S1x32 .f32)
    (h2 : ∀ r u, x2 (ix2 r u) = N.a (node j r) u) (h3 : ∀ r u, x3 (ix2 r u) = N.w (node j r) u)
    (h4 : ∀ u, x4 (ix2 u 0) = (1 : EReal)) (h5 : ∀ r b f, x5 (ix2 r (fcol b f)) = N.x b (node j r) f)
    (h6 : ∀ g f b d, x6 (ix2 (fcol g f) (col b d)) = if g = b then N.w1 d f else 0)
    (h8 : ∀ g k b d, x8 (ix2 (col g k) (col b d)) = if g = b then N.w3 d k else 0)
    (h9 : ∀ b k, x9 (ix2 0 (col b k)) = N.w4 k) (h10 : ∀ b d, x10 (ix2 0 (col b d)) = (N.b1 d + N.b2 d) + N.b3 d)
    (r : Fin 512) (b : Fin 2) (d : Fin 16) :
    term x2 x3 x4 x5 x6 x8 x9 x10 (ix2 r (col b d)) = still N b (node j r) d := by
  unfold term k0_pay12
  pointwise
  rw [sum_fcols, sum_cols]
  simp only [h2, h3, h4, h5, h6, h8, h9, h10, mul_one, sum_diag]
  rfl

/-- A round at a block, its integer sums opened. -/
theorem combine_open (mk : Vec Ideal S512x4096 .i8) (q : Fin 8 → Vec Ideal S512x32 .i8) (s : Fin 8 → EReal) (fixed : Vec Ideal S512x32 .f32)
    (w2 : Vec Ideal S32x32 .f32) (r : Fin 512) (c : Fin 32) :
    combine mk q s fixed w2 (ix2 r c) = max (fixed (ix2 r c) + ∑ x, (∑ j : Fin 8,
      (((∑ k : Fin 512, (mk (ix2 r (node j k))).toInt * (q j (ix2 k x)).toInt : ℤ) : ℝ) : EReal) * s j) * w2 (ix2 x c)) 0 := by
  unfold combine k0_pay16 k0_pay13 k0_pay14 k0_pay15
  pointwise
  simp only [Fin.sum_univ_eight]
  refine congrArg (fun z => max (_ + z) 0) (Finset.sum_congr rfl fun x _ => ?_)
  rw [dot_group mk (q 0) 0 _ 0 rfl, dot_group mk (q 1) 512 _ 1 rfl, dot_group mk (q 2) 1024 _ 2 rfl, dot_group mk (q 3) 1536 _ 3 rfl,
    dot_group mk (q 4) 2048 _ 4 rfl, dot_group mk (q 5) 2560 _ 5 rfl, dot_group mk (q 6) 3072 _ 6 rfl, dot_group mk (q 7) 3584 _ 7 rfl]

/-- A round at a block is `next` there. -/
theorem combine_apply (N : Net) (hN : N.Good) (E : Emb) (hE : ∀ b u d, 0 ≤ E b u d) (j : Fin 8)
    (adj : Vec Ideal S512x4096 .f32) (e : Fin 8 → FVec Ideal S512x32 .f32) (fixed : Vec Ideal S512x32 .f32) (w2 : Vec Ideal S32x32 .f32)
    (ha : ∀ r u, adj (ix2 r u) = N.a (node j r) u) (he : ∀ k b r d, e k (ix2 r (col b d)) = E b (node k r) d)
    (hf : ∀ r b d, fixed (ix2 r (col b d)) = still N b (node j r) d)
    (h2 : ∀ g k b d, w2 (ix2 (col g k) (col b d)) = if g = b then N.w2 d k else 0)
    (r : Fin 512) (b : Fin 2) (d : Fin 16) :
    combine (k0_pay11 (F := Ideal) adj) (fun k => quant (e k)) (fun k => scale (e k)) fixed w2 (ix2 r (col b d))
      = next N E b (node j r) d := by
  rw [combine_open, next_eq N hN, sum_cols, hf]
  have hl : ∀ k, largest (e k) = top E k := fun k => largest_apply (e k) E k (he k)
  simp only [mask_apply, quant_apply, scale_apply, hl, he, ha, h2, sum_diag, near_eq N hN E hE]
  rfl

end Cert.KernelIdeal.Hand

end
-- ==== Proof.Operands.lean ====
/- The region's operands, read at an index: the arguments, and what the program before the call makes of them. -/
module

public import proofs.«01_k».proof.Proof.KerValue
public import proofs.«01_k».proof.Proof.Run
public import Idealize.ShloMosaic.Lib.Pipeline.ValueKit
public import Idealize.ShloMosaic.Lib.Tactic.CleanTypes
public import Idealize.ShloMosaic.Lib.Routing.OpsSet
public import Idealize.ShloMosaic.Lib.Routing.OpsPair
public import Idealize.ShloMosaic.Lib.StableHlo.ReadAt
public import Idealize.ShloMosaic.Lib.Claim

@[expose] public section

set_option maxRecDepth 16384

noncomputable section

namespace Cert.KernelIdeal.Hand

open Cert.KernelIdeal Cert.KernelIdeal.Gen Cert.Algebra
open Idealize.ShloMosaic Idealize.ShloMosaic.TcCoe Idealize.SL.Sem Idealize.ShloMosaic.StableHlo

variable (m : (ℓ : Loc nD τ sig) → Buf (Elt Ideal) ℓ) (c : Dev nD)

/-- The argument arrays, at indices. -/
def knet : Net where
  x b v f := (m ((c : Thread nD τ).loc main_arg0) : FVec Ideal S2x4096x17 .f32) (ix3 b v f)
  a v u := (m ((c : Thread nD τ).loc main_arg1) : FVec Ideal S4096x4096 .f32) (ix2 v u)
  w v u := (m ((c : Thread nD τ).loc main_arg2) : FVec Ideal S4096x4096 .f32) (ix2 v u)
  w1 d f := (m ((c : Thread nD τ).loc main_arg3) : FVec Ideal S16x17 .f32) (ix2 d f)
  b1 d := (m ((c : Thread nD τ).loc main_arg4) : FVec Ideal S16 .f32) (ix1 d)
  w2 d k := (m ((c : Thread nD τ).loc main_arg5) : FVec Ideal S16x16 .f32) (ix2 d k)
  b2 d := (m ((c : Thread nD τ).loc main_arg6) : FVec Ideal S16 .f32) (ix1 d)
  w3 d k := (m ((c : Thread nD τ).loc main_arg7) : FVec Ideal S16x16 .f32) (ix2 d k)
  b3 d := (m ((c : Thread nD τ).loc main_arg8) : FVec Ideal S16 .f32) (ix1 d)
  w4 k := (m ((c : Thread nD τ).loc main_arg9) : FVec Ideal S16x1 .f32) (ix2 k 0)
  b4 k := (m ((c : Thread nD τ).loc main_arg10) : FVec Ideal S16 .f32) (ix1 k)

/-! ## Two copies of a matrix on a diagonal -/

/-- Where an entry of the copy written at `idx` lands. -/
theorem lands34 (k : S17x16.Idx) (idx : IVec S2 32) (r : Fin 34) (q : Fin 32) :
    scatter_S34x32_S2_S17x16_01_n_01_0.resultIdx? k idx = some (ix2 r q)
      ↔ (idx (ix1 0)).toInt + ((k 0).val : Int) = r.val ∧ (idx (ix1 1)).toInt + ((k 1).val : Int) = q.val := by
  have e0 : scatter_S34x32_S2_S17x16_01_n_01_0.start k idx 0 = (idx (ix1 0)).toInt := by
    refine (dif_pos (by decide)).trans (congrArg (fun i => (idx i).toInt) ?_)
    funext a; fin_cases a; rfl
  have e1 : scatter_S34x32_S2_S17x16_01_n_01_0.start k idx 1 = (idx (ix1 1)).toInt := by
    refine (dif_pos (by decide)).trans (congrArg (fun i => (idx i).toInt) ?_)
    funext a; fin_cases a; rfl
  have f0 : scatter_S34x32_S2_S17x16_01_n_01_0.window k 0 = (k 0).val := rfl
  have f1 : scatter_S34x32_S2_S17x16_01_n_01_0.window k 1 = (k 1).val := rfl
  rw [ix2_eq_valueIdx, Routing.resultIdx?_ix2, e0, e1, f0, f1]

theorem lands32 (k : S16x16.Idx) (idx : IVec S2 32) (r : Fin 32) (q : Fin 32) :
    scatter_S32x32_S2_S16x16_01_n_01_0.resultIdx? k idx = some (ix2 r q)
      ↔ (idx (ix1 0)).toInt + ((k 0).val : Int) = r.val ∧ (idx (ix1 1)).toInt + ((k 1).val : Int) = q.val := by
  have e0 : scatter_S32x32_S2_S16x16_01_n_01_0.start k idx 0 = (idx (ix1 0)).toInt := by
    refine (dif_pos (by decide)).trans (congrArg (fun i => (idx i).toInt) ?_)
    funext a; fin_cases a; rfl
  have e1 : scatter_S32x32_S2_S16x16_01_n_01_0.start k idx 1 = (idx (ix1 1)).toInt := by
    refine (dif_pos (by decide)).trans (congrArg (fun i => (idx i).toInt) ?_)
    funext a; fin_cases a; rfl
  have f0 : scatter_S32x32_S2_S16x16_01_n_01_0.window k 0 = (k 0).val := rfl
  have f1 : scatter_S32x32_S2_S16x16_01_n_01_0.window k 1 = (k 1).val := rfl
  rw [ix2_eq_valueIdx, Routing.resultIdx?_ix2, e0, e1, f0, f1]

theorem diagonal34 (z : FVec Ideal S34x32 .f32) (i j : IVec S2 32) (u : FVec Ideal S17x16 .f32) (hz : ∀ r q, z (ix2 r q) = 0)
    (i0 : (i (ix1 0)).toInt = 0) (i1 : (i (ix1 1)).toInt = 0) (j0 : (j (ix1 0)).toInt = 17) (j1 : (j (ix1 1)).toInt = 16)
    (g b : Fin 2) (f : Fin 17) (d : Fin 16) :
    Host.scatter scatter_S34x32_S2_S17x16_01_n_01_0 (fun _ b => b)
      (Host.scatter scatter_S34x32_S2_S17x16_01_n_01_0 (fun _ b => b) z i u) j u (ix2 (fcol g f) (col b d))
      = if g = b then u (ix2 f d) else 0 := by
  have hk : ∀ k : S17x16.Idx, (k 0).val = f.val → (k 1).val = d.val → u k = u (ix2 f d) := fun k h0 h1 =>
    congrArg u (by funext a; fin_cases a; exacts [Fin.ext h0, Fin.ext h1])
  have lt0 : ∀ k : S17x16.Idx, (k 0).val < 17 := fun k => (k 0).isLt
  have lt1 : ∀ k : S17x16.Idx, (k 1).val < 16 := fun k => (k 1).isLt
  have hg := g.isLt; have hb := b.isLt; have hf := f.isLt; have hd := d.isLt
  by_cases e : g.val = 1 ∧ b.val = 1
  · rw [if_pos (Fin.ext (e.1.trans e.2.symm))]
    refine Routing.scatter_set_hit _ _ _ _ _ _ (fun k h => ?_) (ix2 f d) ?_
    · rw [lands34, j0, j1] at h
      simp only [fcol, col] at h
      exact hk k (by omega) (by omega)
    · rw [lands34, j0, j1]
      simp only [fcol, col, ix2_0, ix2_1]
      omega
  · rw [Routing.scatter_set_miss _ _ _ _ _ fun k h => by
      rw [lands34, j0, j1] at h
      simp only [fcol, col] at h
      have := lt0 k; have := lt1 k; omega]
    by_cases e' : g.val = 0 ∧ b.val = 0
    · rw [if_pos (Fin.ext (e'.1.trans e'.2.symm))]
      refine Routing.scatter_set_hit _ _ _ _ _ _ (fun k h => ?_) (ix2 f d) ?_
      · rw [lands34, i0, i1] at h
        simp only [fcol, col] at h
        exact hk k (by omega) (by omega)
      · rw [lands34, i0, i1]
        simp only [fcol, col, ix2_0, ix2_1]
        omega
    · rw [Routing.scatter_set_miss _ _ _ _ _ fun k h => by
        rw [lands34, i0, i1] at h
        simp only [fcol, col] at h
        have := lt0 k; have := lt1 k; omega, hz, if_neg fun h => by subst h; omega]

theorem diagonal32 (z : FVec Ideal S32x32 .f32) (i j : IVec S2 32) (u : FVec Ideal S16x16 .f32) (hz : ∀ r q, z (ix2 r q) = 0)
    (i0 : (i (ix1 0)).toInt = 0) (i1 : (i (ix1 1)).toInt = 0) (j0 : (j (ix1 0)).toInt = 16) (j1 : (j (ix1 1)).toInt = 16)
    (g b : Fin 2) (f d : Fin 16) :
    Host.scatter scatter_S32x32_S2_S16x16_01_n_01_0 (fun _ b => b)
      (Host.scatter scatter_S32x32_S2_S16x16_01_n_01_0 (fun _ b => b) z i u) j u (ix2 (col g f) (col b d))
      = if g = b then u (ix2 f d) else 0 := by
  have hk : ∀ k : S16x16.Idx, (k 0).val = f.val → (k 1).val = d.val → u k = u (ix2 f d) := fun k h0 h1 =>
    congrArg u (by funext a; fin_cases a; exacts [Fin.ext h0, Fin.ext h1])
  have lt0 : ∀ k : S16x16.Idx, (k 0).val < 16 := fun k => (k 0).isLt
  have lt1 : ∀ k : S16x16.Idx, (k 1).val < 16 := fun k => (k 1).isLt
  have hg := g.isLt; have hb := b.isLt; have hf := f.isLt; have hd := d.isLt
  by_cases e : g.val = 1 ∧ b.val = 1
  · rw [if_pos (Fin.ext (e.1.trans e.2.symm))]
    refine Routing.scatter_set_hit _ _ _ _ _ _ (fun k h => ?_) (ix2 f d) ?_
    · rw [lands32, j0, j1] at h
      simp only [col] at h
      exact hk k (by omega) (by omega)
    · rw [lands32, j0, j1]
      simp only [col, ix2_0, ix2_1]
      omega
  · rw [Routing.scatter_set_miss _ _ _ _ _ fun k h => by
      rw [lands32, j0, j1] at h
      simp only [col] at h
      have := lt0 k; have := lt1 k; omega]
    by_cases e' : g.val = 0 ∧ b.val = 0
    · rw [if_pos (Fin.ext (e'.1.trans e'.2.symm))]
      refine Routing.scatter_set_hit _ _ _ _ _ _ (fun k h => ?_) (ix2 f d) ?_
      · rw [lands32, i0, i1] at h
        simp only [col] at h
        exact hk k (by omega) (by omega)
      · rw [lands32, i0, i1]
        simp only [col, ix2_0, ix2_1]
        omega
    · rw [Routing.scatter_set_miss _ _ _ _ _ fun k h => by
        rw [lands32, i0, i1] at h
        simp only [col] at h
        have := lt0 k; have := lt1 k; omega, hz, if_neg fun h => by subst h; omega]

/-! ## The operands -/

theorem opnd1 (v : Fin 4096) (b : Fin 2) (f : Fin 17) :
    (V m c main_v1 : FVec Ideal S4096x34 .f32) (ix2 v (fcol b f)) = (knet m c).x b v f := by
  unfold V V0
  after_reads_at
  unfold knet
  refine congrArg (m ((c : Thread nD τ).loc main_arg0)) ?_
  congr 1 <;> apply Fin.ext <;> simp only [fcol] <;> omega

theorem opnd39 (v : Fin 4096) (q : Fin 8) : (V m c main_v39 : FVec Ideal S4096x8 .bf16) (ix2 v q) = (1 : EReal) := by
  unfold V V0
  after_reads_at

theorem opnd34 (b : Fin 2) (k : Fin 16) : (V m c main_v34 : FVec Ideal S1x32 .f32) (ix2 0 (col b k)) = (knet m c).w4 k := by
  unfold V V0
  after_reads_at
  have hb : b.val = 0 ∨ b.val = 1 := by omega
  unfold knet
  split <;> rename_i h <;> refine congrArg (m ((c : Thread nD τ).loc main_arg9)) ?_ <;> congr 1 <;>
    apply Fin.ext <;> simp only [col] at h ⊢ <;> omega

theorem opnd38 (b : Fin 2) (k : Fin 16) :
    (V m c main_v38 : FVec Ideal S1x32 .f32) (ix2 0 (col b k)) = ((knet m c).b1 k + (knet m c).b2 k) + (knet m c).b3 k := by
  unfold V V0
  after_reads_at
  after_reads_at
  have hb : b.val = 0 ∨ b.val = 1 := by omega
  unfold knet
  split <;> rename_i h <;> refine congrArg₂ (· + ·) (congrArg₂ (· + ·) (congrArg (m ((c : Thread nD τ).loc main_arg4)) ?_)
    (congrArg (m ((c : Thread nD τ).loc main_arg6)) ?_)) (congrArg (m ((c : Thread nD τ).loc main_arg8)) ?_) <;> congr 1 <;>
    apply Fin.ext <;> simp only [col] at h ⊢ <;> omega

theorem opnd11 (g b : Fin 2) (f : Fin 17) (d : Fin 16) :
    (V m c main_v11 : FVec Ideal S34x32 .f32) (ix2 (fcol g f) (col b d)) = if g = b then (knet m c).w1 d f else 0 := by
  unfold V V0
  after_reads_simp
  clean_types
  refine (diagonal34 _ _ _ _ (fun r q => ?_) ?_ ?_ ?_ ?_ g b f d).trans ?_
  · pointwise
  · pointwise; after_reads_at; decide
  · pointwise; after_reads_at; decide
  · pointwise; after_reads_at; decide
  · pointwise; after_reads_at; decide
  · pointwise; rfl

theorem opnd21 (g b : Fin 2) (f : Fin 16) (d : Fin 16) :
    (V m c main_v21 : FVec Ideal S32x32 .f32) (ix2 (col g f) (col b d)) = if g = b then (knet m c).w2 d f else 0 := by
  unfold V V0
  after_reads_simp
  clean_types
  refine (diagonal32 _ _ _ _ (fun r q => ?_) ?_ ?_ ?_ ?_ g b f d).trans ?_
  · pointwise
  · pointwise; after_reads_at; decide
  · pointwise; after_reads_at; decide
  · pointwise; after_reads_at; decide
  · pointwise; after_reads_at; decide
  · pointwise; rfl

theorem opnd31 (g b : Fin 2) (f : Fin 16) (d : Fin 16) :
    (V m c main_v31 : FVec Ideal S32x32 .f32) (ix2 (col g f) (col b d)) = if g = b then (knet m c).w3 d f else 0 := by
  unfold V V0
  after_reads_simp
  clean_types
  refine (diagonal32 _ _ _ _ (fun r q => ?_) ?_ ?_ ?_ ?_ g b f d).trans ?_
  · pointwise
  · pointwise; after_reads_at; decide
  · pointwise; after_reads_at; decide
  · pointwise; after_reads_at; decide
  · pointwise; after_reads_at; decide
  · pointwise; rfl

/-! ## The blocks the body is handed -/

theorem index_facts : ∀ t : Fin grid0.N, t.val < 8 → (win0_0.index t 0 = t.val ∧ win0_0.index t 1 = 0)
    ∧ (win0_1.index t 0 = t.val ∧ win0_1.index t 1 = 0) := by decide +kernel

theorem blk0 (j : Fin 8) (r : Fin 512) (u : Fin 4096) :
    (iblk m c 0 (first j) : FVec Ideal S512x4096 .f32) (ix2 r u) = (knet m c).a (node j r) u := by
  obtain ⟨⟨h0, h1⟩, -⟩ := index_facts (first j) (by simp only [first]; omega)
  refine Eq.trans ?_ (congrFun (V_main_arg1 m c) (ix2 (node j r) u))
  blk_point [iblk]
  · rw [h0]; simp only [first, node]; omega

theorem blk1 (j : Fin 8) (r : Fin 512) (u : Fin 4096) :
    (iblk m c 1 (first j) : FVec Ideal S512x4096 .f32) (ix2 r u) = (knet m c).w (node j r) u := by
  obtain ⟨-, h0, h1⟩ := index_facts (first j) (by simp only [first]; omega)
  refine Eq.trans ?_ (congrFun (V_main_arg2 m c) (ix2 (node j r) u))
  blk_point [iblk]
  · rw [h0]; simp only [first, node]; omega

theorem blk2 (j : Fin 8) (v : Fin 4096) (q : Fin 8) :
    (iblk m c 2 (first j) : FVec Ideal S4096x8 .bf16) (ix2 v q) = (1 : EReal) := by
  refine Eq.trans ?_ (opnd39 m c v q)
  blk_point [iblk]
  · rw [show win0_2.index (first j) 0 = 0 from rfl]; omega
  · rw [show win0_2.index (first j) 1 = 0 from rfl]; omega

theorem blk3 (j : Fin 8) (v : Fin 4096) (b : Fin 2) (f : Fin 17) :
    (iblk m c 3 (first j) : FVec Ideal S4096x34 .f32) (ix2 v (fcol b f)) = (knet m c).x b v f := by
  refine Eq.trans ?_ (opnd1 m c v b f)
  blk_point [iblk]
  · rw [show win0_3.index (first j) 0 = 0 from rfl]; omega
  · rw [show win0_3.index (first j) 1 = 0 from rfl]; omega

theorem blk4 (j : Fin 8) (g b : Fin 2) (f : Fin 17) (d : Fin 16) :
    (iblk m c 4 (first j) : FVec Ideal S34x32 .f32) (ix2 (fcol g f) (col b d)) = if g = b then (knet m c).w1 d f else 0 := by
  refine Eq.trans ?_ (opnd11 m c g b f d)
  blk_point [iblk]
  · rw [show win0_4.index (first j) 0 = 0 from rfl]; omega
  · rw [show win0_4.index (first j) 1 = 0 from rfl]; omega

theorem blk5 (j : Fin 8) (g b : Fin 2) (f d : Fin 16) :
    (iblk m c 5 (first j) : FVec Ideal S32x32 .f32) (ix2 (col g f) (col b d)) = if g = b then (knet m c).w2 d f else 0 := by
  refine Eq.trans ?_ (opnd21 m c g b f d)
  blk_point [iblk]
  · rw [show win0_5.index (first j) 0 = 0 from rfl]; omega
  · rw [show win0_5.index (first j) 1 = 0 from rfl]; omega

theorem blk6 (j : Fin 8) (g b : Fin 2) (f d : Fin 16) :
    (iblk m c 6 (first j) : FVec Ideal S32x32 .f32) (ix2 (col g f) (col b d)) = if g = b then (knet m c).w3 d f else 0 := by
  refine Eq.trans ?_ (opnd31 m c g b f d)
  blk_point [iblk]
  · rw [show win0_6.index (first j) 0 = 0 from rfl]; omega
  · rw [show win0_6.index (first j) 1 = 0 from rfl]; omega

theorem blk7 (j : Fin 8) (b : Fin 2) (k : Fin 16) :
    (iblk m c 7 (first j) : FVec Ideal S1x32 .f32) (ix2 0 (col b k)) = (knet m c).w4 k := by
  refine Eq.trans ?_ (opnd34 m c b k)
  blk_point [iblk]
  · rw [show win0_7.index (first j) 0 = 0 from rfl]
  · rw [show win0_7.index (first j) 1 = 0 from rfl]; omega

theorem blk8 (j : Fin 8) (b : Fin 2) (k : Fin 16) :
    (iblk m c 8 (first j) : FVec Ideal S1x32 .f32) (ix2 0 (col b k)) = ((knet m c).b1 k + (knet m c).b2 k) + (knet m c).b3 k := by
  refine Eq.trans ?_ (opnd38 m c b k)
  blk_point [iblk]
  · rw [show win0_8.index (first j) 0 = 0 from rfl]
  · rw [show win0_8.index (first j) 1 = 0 from rfl]; omega

theorem rows3 (j : Fin 8) (r : Fin 512) (b : Fin 2) (f : Fin 17) :
    (rows34 (iblk m c 3 (first j)) j : FVec Ideal S512x34 .f32) (ix2 r (fcol b f)) = (knet m c).x b (node j r) f := by
  refine Eq.trans ?_ (blk3 m c j (node j r) b f)
  unfold rows34
  refine congrArg (iblk m c 3 (first j)) ?_
  funext a; fin_cases a
  · refine Fin.ext ((Rect.emb_apply _ _ _).trans ?_)
    show 512 * j.val + 1 * r.val = 512 * j.val + r.val
    omega
  · refine Fin.ext ((Rect.emb_apply _ _ _).trans ?_)
    show 0 + 1 * (fcol b f).val = (fcol b f).val
    omega

/-! ## The embeddings, round by round -/

theorem fix_apply (hN : (knet m c).Good) (j : Fin 8) (r : Fin 512) (b : Fin 2) (d : Fin 16) :
    (fixB m c j : FVec Ideal S512x32 .f32) (ix2 r (col b d)) = still (knet m c) b (node j r) d := by
  unfold fixB
  exact term_apply (knet m c) j _ _ _ _ _ _ _ _ (blk0 m c j) (blk1 m c j) (fun u => blk2 m c j u 0)
    (rows3 m c j) (fun g k b d => blk4 m c j g b k d) (fun g k b d => blk6 m c j g b k d) (blk7 m c j) (blk8 m c j) r b d

theorem emb_apply (hN : (knet m c).Good) (t : ℕ) (j : Fin 8) (r : Fin 512) (b : Fin 2) (d : Fin 16) :
    (emb m c t j : FVec Ideal S512x32 .f32) (ix2 r (col b d)) = rounds (knet m c) (t + 1) b (node j r) d := by
  induction t generalizing j r b d with
  | zero =>
    rw [first_eq (knet m c) hN, ← fix_apply m c hN j r b d]
    exact first_apply _ _ _
  | succ t ih =>
    exact combine_apply (knet m c) hN (rounds (knet m c) (t + 1)) (rounds_nonneg _ _) j _ _ _ _ (blk0 m c j)
      (fun k b r d => ih k r b d) (fun r b d => fix_apply m c hN j r b d) (fun g k b d => blk5 m c j g b k d) r b d

end Cert.KernelIdeal.Hand
-- ==== Proof.RefValue.lean ====
/- The reference's result at an index: each of its rounds is `Cert.Algebra.next`. -/
module

public import proofs.«01_k».proof.Proof.Net
public import proofs.«01_k».proof.Proof.Gen.ReferenceIdeal.Run
public import Idealize.ShloMosaic.Lib.Pipeline.ValueKit
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Algebra
open Idealize.ShloMosaic Idealize.ShloMosaic.TcCoe Idealize.SL.Sem Idealize.ShloMosaic.StableHlo

variable (V : Valuation τ sig (Elt Ideal))

/-- The argument arrays, at indices. -/
def net : Net where
  x b v f := (V (Proc.devRef .tc main_arg0) : FVec Ideal S2x4096x17 .f32) (ix3 b v f)
  a v u := (V (Proc.devRef .tc main_arg1) : FVec Ideal S4096x4096 .f32) (ix2 v u)
  w v u := (V (Proc.devRef .tc main_arg2) : FVec Ideal S4096x4096 .f32) (ix2 v u)
  w1 d f := (V (Proc.devRef .tc main_arg3) : FVec Ideal S16x17 .f32) (ix2 d f)
  b1 d := (V (Proc.devRef .tc main_arg4) : FVec Ideal S16 .f32) (ix1 d)
  w2 d k := (V (Proc.devRef .tc main_arg5) : FVec Ideal S16x16 .f32) (ix2 d k)
  b2 d := (V (Proc.devRef .tc main_arg6) : FVec Ideal S16 .f32) (ix1 d)
  w3 d k := (V (Proc.devRef .tc main_arg7) : FVec Ideal S16x16 .f32) (ix2 d k)
  b3 d := (V (Proc.devRef .tc main_arg8) : FVec Ideal S16 .f32) (ix1 d)
  w4 k := (V (Proc.devRef .tc main_arg9) : FVec Ideal S16x1 .f32) (ix2 k 0)
  b4 k := (V (Proc.devRef .tc main_arg10) : FVec Ideal S16 .f32) (ix1 k)

/-- The mask is the adjacency where that holds zeros and ones. -/
theorem mask_apply (h : (net V).Good) (v u : Fin 4096) :
    (res_main_v2 V : FVec Ideal S4096x4096 .f32) (ix2 v u) = (net V).a v u := by
  unfold res_main_v2
  clean_types
  pointwise
  show (if (net V).a v u ≠ 0 then (1 : EReal) else 0) = (net V).a v u
  rcases h.adj v u with e | e <;> rw [e] <;> simp

theorem weight_apply (h : (net V).Good) (v : Fin 4096) (d : Fin 16) :
    (res_main_v22 V : FVec Ideal S4096x16 .f32) (ix2 v d) = weight (net V) v d := by
  unfold res_main_v22
  clean_types
  pointwise
  simp only [id]
  pointwise
  unfold weight edges
  refine congrArg (· + _) (Finset.sum_congr rfl fun k _ => ?_)
  refine congrArg (· * _) (Finset.sum_congr rfl fun u _ => ?_)
  rw [mask_apply V h]
  rfl

theorem feature_apply (b : Fin 2) (v : Fin 4096) (d : Fin 16) :
    (res_main_v27 V : FVec Ideal S2x4096x16 .f32) (ix3 b v d) = feature (net V) b v d := by
  unfold res_main_v27
  clean_types
  pointwise
  rfl

/-- The groups' largest entries. -/
abbrev groupTop (X : FVec Ideal S2x8x512x16 .f32) : FVec Ideal S1x8x1x1 .f32 :=
  maximumf (broadcastInDim S1x8x1x1 ![1] bcast_S8_S1x8x1x1_1 (Host.reduce FloatOps.maximumf X (constant S_ .f32 0xFF800000#32) reducesTo_S2x8x512x16_S8_d0_2_3 h_S_)) (broadcastInDim S1x8x1x1 ![] bcast_S_S1x8x1x1 (constant S_ .f32 0x0DA24260#32))

theorem groupTop_apply (X : FVec Ideal S2x8x512x16 .f32) (E : Emb) (h : ∀ b j r d, X (ix4 b j r d) = E b (node j r) d)
    (j : Fin 8) : groupTop X (ix4 0 j 0 0) = top E j := by
  unfold groupTop
  pointwise
  unfold top
  congr 1
  refine eq_of_forall_ge_iff fun c => ?_
  rw [Finset.fold_max_le, word_bot]
  simp only [bot_le, true_and, iSup_le_iff, Finset.mem_filter, Finset.mem_univ]
  constructor
  · intro hc b r d
    rw [← h]
    refine hc _ (funext fun a => ?_)
    fin_cases a
    exact Fin.ext (Shape.ReducesTo.drop_apply_val_of_eq reducesTo_S2x8x512x16_S8_d0_2_3 (ix4 b j r d) 0 1)
  · intro hc i hi
    have h1 : i 1 = j := by
      have := congrFun hi 0
      exact Fin.ext ((Shape.ReducesTo.drop_apply_val_of_eq reducesTo_S2x8x512x16_S8_d0_2_3 i 0 1).symm.trans
        (congrArg Fin.val this))
    rw [eq_ix4 i]
    refine le_of_eq_of_le (h (i 0) (i 1) (i 2) (i 3)) ?_
    rw [h1]
    exact hc _ _ _

/-- One round's text, over what it reads. -/
abbrev round (mask : FVec Ideal S4096x4096 .f32) (weight : FVec Ideal S4096x16 .f32) (feature : FVec Ideal S2x4096x16 .f32)
    (w2 : FVec Ideal S16x16 .f32) (b2 : FVec Ideal S16 .f32) (X : FVec Ideal S2x8x512x16 .f32) (Y : FVec Ideal S1x8x1x1 .f32) :
    FVec Ideal S2x4096x16 .f32 :=
  maximumf (addf (addf feature (addf (Host.dotGeneral dot_S2x4096x16_S16x16_S2x4096x16_2_0_01_1_n_n none (transpose S2x4096x16 [0, 2, 1] (Host.dotGeneral dot_S2x4096x16_S4096x4096_S2x16x4096_1_1_02_0_n_n none (shapeCast _ (mulf (sitofp .f32 (fptosi 32 (addf (mulf X (broadcastInDim S2x8x512x16 ![0, 1, 2, 3] bcast_S1x8x1x1_S2x8x512x16_0_1_2_3 (Host.divf (broadcastInDim S1x8x1x1 ![] bcast_S_S1x8x1x1 (constant S_ .f32 0x42FE0000#32)) Y))) (broadcastInDim S2x8x512x16 ![] bcast_S_S2x8x512x16 (constant S_ .f32 0x3F000000#32))))) (broadcastInDim S2x8x512x16 ![0, 1, 2, 3] bcast_S1x8x1x1_S2x8x512x16_0_1_2_3 (mulf Y (broadcastInDim S1x8x1x1 ![] bcast_S_S1x8x1x1 (constant S_ .f32 0x3C010204#32))))) shapeCasts_S2x8x512x16_S2x4096x16) mask) transposes_S2x16x4096_S2x4096x16_0_2_1) (transpose S16x16 [1, 0] w2 transposes_S16x16_S16x16_1_0)) (broadcastInDim S2x4096x16 ![0, 1, 2] bcast_S1x1x16_S2x4096x16_0_1_2 (broadcastInDim S1x1x16 ![2] bcast_S16_S1x1x16_2 b2)))) (broadcastInDim S2x4096x16 ![0, 1, 2] bcast_S1x4096x16_S2x4096x16_0_1_2 (broadcastInDim S1x4096x16 ![1, 2] bcast_S4096x16_S1x4096x16_1_2 weight))) (broadcastInDim S2x4096x16 ![] bcast_S_S2x4096x16 (constant S_ .f32 0x00000000#32))

theorem round_apply (N : Net) (E : Emb) (mask : FVec Ideal S4096x4096 .f32) (wt : FVec Ideal S4096x16 .f32)
    (ft : FVec Ideal S2x4096x16 .f32) (w2 : FVec Ideal S16x16 .f32) (b2 : FVec Ideal S16 .f32)
    (X : FVec Ideal S2x8x512x16 .f32) (Y : FVec Ideal S1x8x1x1 .f32)
    (hm : ∀ v u, mask (ix2 v u) = N.a v u) (hw : ∀ v d, wt (ix2 v d) = weight N v d)
    (hf : ∀ b v d, ft (ix3 b v d) = feature N b v d) (h2 : ∀ d k, w2 (ix2 d k) = N.w2 d k) (hb : ∀ d, b2 (ix1 d) = N.b2 d)
    (hX : ∀ b j r d, X (ix4 b j r d) = E b (node j r) d) (hY : ∀ j, Y (ix4 0 j 0 0) = top E j)
    (b : Fin 2) (v : Fin 4096) (d : Fin 16) :
    round mask wt ft w2 b2 X Y (ix3 b v d) = next N E b v d := by
  unfold round
  pointwise
  have e : ∀ u : Fin 4096, (⟨u.val / 512, by omega⟩ : Fin 8) = group u := fun u => rfl
  have e' : ∀ u : Fin 4096, (⟨u.val % 512, by omega⟩ : Fin 512) = place u := fun u => rfl
  simp only [e, e', hm, hw, hf, h2, hb, hX, hY, node_group]
  rfl

/-- A round's result, cut into groups. -/
theorem grouped_apply (X : FVec Ideal S2x4096x16 .f32) (E : Emb) (h : ∀ b v d, X (ix3 b v d) = E b v d)
    (b : Fin 2) (j : Fin 8) (r : Fin 512) (d : Fin 16) :
    (shapeCast S2x8x512x16 X shapeCasts_S2x4096x16_S2x8x512x16 : FVec Ideal S2x8x512x16 .f32) (ix4 b j r d) = E b (node j r) d := by
  pointwise
  refine (h _ _ _).trans (congrArg (E b · d) (Fin.ext ?_))
  show j.val * 512 + r.val = 512 * j.val + r.val
  omega

theorem zero_apply (b : Fin 2) (j : Fin 8) (r : Fin 512) (d : Fin 16) :
    (res_main_v29 V : FVec Ideal S2x8x512x16 .f32) (ix4 b j r d) = rounds (net V) 0 b (node j r) d := by
  unfold res_main_v29
  clean_types
  pointwise
  rfl

/-- A round over the named terms. -/
theorem named_round (h : (net V).Good) (t : ℕ) (X : FVec Ideal S2x8x512x16 .f32)
    (hX : ∀ b j r d, X (ix4 b j r d) = rounds (net V) t b (node j r) d) (b : Fin 2) (v : Fin 4096) (d : Fin 16) :
    round (res_main_v2 V) (res_main_v22 V) (res_main_v27 V) (V (Proc.devRef .tc main_arg5)) (V (Proc.devRef .tc main_arg6))
      X (groupTop X) (ix3 b v d) = rounds (net V) (t + 1) b v d :=
  round_apply (net V) (rounds (net V) t) _ _ _ _ _ X _ (mask_apply V h) (weight_apply V h) (feature_apply V) (fun _ _ => rfl)
    (fun _ => rfl) hX (groupTop_apply X _ hX) b v d

theorem one_apply (h : (net V).Good) (b : Fin 2) (j : Fin 8) (r : Fin 512) (d : Fin 16) :
    (res_main_v59 V : FVec Ideal S2x8x512x16 .f32) (ix4 b j r d) = rounds (net V) 1 b (node j r) d :=
  grouped_apply _ _ (named_round V h 0 (res_main_v29 V) (zero_apply V)) b j r d

theorem two_apply (h : (net V).Good) (b : Fin 2) (j : Fin 8) (r : Fin 512) (d : Fin 16) :
    (res_main_v89 V : FVec Ideal S2x8x512x16 .f32) (ix4 b j r d) = rounds (net V) 2 b (node j r) d :=
  grouped_apply _ _ (named_round V h 1 (res_main_v59 V) (one_apply V h)) b j r d

theorem three_apply (h : (net V).Good) (b : Fin 2) (j : Fin 8) (r : Fin 512) (d : Fin 16) :
    (res_main_v119 V : FVec Ideal S2x8x512x16 .f32) (ix4 b j r d) = rounds (net V) 3 b (node j r) d :=
  grouped_apply _ _ (named_round V h 2 (res_main_v89 V) (two_apply V h)) b j r d

/-- The reference's result. -/
abbrev result : FVec Ideal S2x4096x16 .f32 :=
  round (res_main_v2 V) (res_main_v22 V) (res_main_v27 V) (V (Proc.devRef .tc main_arg5)) (V (Proc.devRef .tc main_arg6))
    (res_main_v119 V) (res_main_v123 V)

theorem result_apply (h : (net V).Good) (b : Fin 2) (v : Fin 4096) (d : Fin 16) :
    result V (ix3 b v d) = rounds (net V) 4 b v d :=
  named_round V h 3 (res_main_v119 V) (three_apply V h) b v d

end Cert.ReferenceIdeal.Hand

end
-- ==== Proof.Result.lean ====
/- The kernel's result at an index, and that kernel and reference compute one array. -/
module

public import proofs.«01_k».proof.Defs
public import proofs.«01_k».proof.Proof.Operands
public import proofs.«01_k».proof.Proof.RefValue
public import proofs.«01_k».proof.Proof.Gen.Pre_graph_inputs

@[expose] public section

set_option maxRecDepth 16384

noncomputable section

namespace Cert.KernelIdeal.Hand

open Cert.KernelIdeal Cert.KernelIdeal.Gen Cert.Algebra
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (c : Dev nD)

/-! ## The array the region leaves -/

/-- Every point writes its block back; which block it is. -/
theorem out_facts : ∀ t : Fin grid0.N, (cfg0.win 9).flush t = true ∧ win0_9.index t 0 = t.val % 8 ∧ win0_9.index t 1 = 0 := by
  decide +kernel

/-- A block written in the last round stays as written: the points after it write other blocks. -/
theorem block_kept (t : Fin cfg0.N) (ht : 24 ≤ t.val) (n : ℕ) (hn : t.val < n) :
    ((cfg0.win 9).blk t).view.read (Elt Ideal) ((dats m 0 c).arrAt 9 n) = (dats m 0 c).flushed 9 t := by
  have lt : ∀ u : Fin cfg0.N, u.val < 32 := fun u => lt_of_lt_of_eq u.isLt Gen.N_0
  induction n, hn using Nat.le_induction with
  | base =>
    rw [(dats m 0 c).arrAt_succ 9 t, if_pos (out_facts t).1]
    exact View.read_write_univ _ _
  | succ n hn ih =>
    by_cases h : n < cfg0.N
    · rw [show n + 1 = (⟨n, h⟩ : Fin cfg0.N).val + 1 from rfl, (dats m 0 c).arrAt_succ 9 ⟨n, h⟩, if_pos (out_facts _).1]
      refine Eq.trans (View.read_congr fun i hi => View.write_of_not_mem _ _ _ ?_) ih
      refine Finset.disjoint_left.mp ((cfg0.win 9).disjoint_blk (u := t) (u' := ⟨n, h⟩) (fun e => ?_)) hi
      have e0 := congrFun e 0
      have : t.val % 8 = n % 8 := ((out_facts t).2.1.symm.trans e0).trans (out_facts ⟨n, h⟩).2.1
      have h32 := lt ⟨n, h⟩
      have : t.val < n := hn
      simp only at h32
      omega
    · rw [(dats m 0 c).arrAt_stable 9 (n + 1) (by omega), ← (dats m 0 c).arrAt_stable 9 n (by omega)]
      exact ih

/-- The point of the last round that writes block `j`. -/
def last (j : Fin 8) : Fin cfg0.N := ⟨24 + j.val, lt_of_lt_of_eq (show 24 + j.val < 32 by omega) Gen.N_0.symm⟩

theorem out_apply (j : Fin 8) (r : Fin 512) (q : Fin 32) :
    ((dats m 0 c).arrAt 9 cfg0.N : FVec Ideal S4096x32 .f32) (ix2 (node j r) q) = (emb m c 3 j : FVec Ideal S512x32 .f32) (ix2 r q) := by
  have h := congrFun (block_kept m c (last j) (by simp only [last]; omega) cfg0.N (last j).isLt) (ix2 r q)
  rw [View.read_apply, Dat.flushed_apply, after9] at h
  have hp : (last j).val / 8 = 3 := by simp only [last]; omega
  have hb : blockOf (last j) = j := Fin.ext (by simp only [last, blockOf]; omega)
  rw [hp, hb] at h
  refine Eq.trans ?_ h
  refine congrArg ((dats m 0 c).arrAt 9 cfg0.N) ?_
  funext a; fin_cases a
  · refine Fin.ext (Eq.symm (((cfg0.win 9).rect_emb_val (last j) (ix2 r q) 0).trans ?_))
    show win0_9.index (last j) 0 * 512 + r.val = 512 * j.val + r.val
    rw [(out_facts (last j)).2.1]
    simp only [last]
    omega
  · refine Fin.ext (Eq.symm (((cfg0.win 9).rect_emb_val (last j) (ix2 r q) 1).trans ?_))
    show win0_9.index (last j) 1 * 32 + q.val = q.val
    rw [(out_facts (last j)).2.2]
    omega

theorem result_apply (hN : (knet m c).Good) (b : Fin 2) (v : Fin 4096) (d : Fin 16) :
    (Pipeline.afterTail₀ cfgs (dats m) 0 (V0 m) [hostOps1] c main_v42 : FVec Ideal S2x4096x16 .f32) (ix3 b v d)
      = rounds (knet m c) 4 b v d := by
  unfold Pipeline.afterTail₀
  after_reads_at
  have hinj : Function.Injective (Pipeline.arrRef spec0) := by decide
  have hv : v = node (group v) (place v) := (node_group v).symm
  have hq : (⟨b.val * 16 + d.val, by omega⟩ : Fin 32) = col b d := Fin.ext (by simp only [col]; omega)
  refine (congrFun (Pipeline.withArrays_arr spec0 hinj c (V0 m c) (fun w => (dats m 0 c).arrAt w cfg0.N) 9) _).trans ?_
  rw [hq, hv]
  exact (out_apply m c _ _ _).trans (emb_apply m c hN 3 _ _ _ _)

/-! ## The precondition -/

theorem good (h : Cert.Pre_KernelIdeal_graph_inputs m) : (knet m c).Good := by
  obtain ⟨h1, h2⟩ := h c
  have e1 : ∀ v u, _ := fun v u : Fin 4096 => congrFun h1 (ix2 v u)
  have e2 : ∀ v, _ := fun v : Fin 16 => congrFun h2 (ix1 v)
  unfold Cert.Pre_graph_inputs.fn at e1 e2
  dsimp only at e1 e2
  pointwise at e1 e2
  have bits : ∀ p q s t : Bool, IntOp.andi (IntOp.andi (IntOp.ori (BitVec.ofBool p) (BitVec.ofBool q)) (BitVec.ofBool s)) (BitVec.ofBool t) = 1#1
      → (p = true ∨ q = true) ∧ s = true ∧ t = true := by decide
  have bit : ∀ p : Bool, BitVec.ofBool p = 1#1 → p = true := by decide
  exact {
    adj := fun v u => (bits _ _ _ _ (e1 v u)).1.imp of_decide_eq_true of_decide_eq_true
    nonneg := fun v u => of_decide_eq_true (bits _ _ _ _ (e1 v u)).2.1
    finite := fun v u => ne_top_of_lt (of_decide_eq_true (bits _ _ _ _ (e1 v u)).2.2)
    bias := fun k => of_decide_eq_true (bit _ (e2 k)) }

end Cert.KernelIdeal.Hand

namespace Cert.Proof

open Cert.Algebra
open Idealize.ShloMosaic Idealize.ShloMosaic.TcCoe Idealize.SL.Sem Idealize.ShloMosaic.StableHlo

/-- Over the extended reals, under the precondition, kernel and reference end with one array. -/
theorem same_result : Cert.algebraic_KernelIdeal_ReferenceIdeal_pre_graph_inputs := by
  intro m g m' g' hpre hargs
  have hnet : ∀ c, Cert.ReferenceIdeal.Hand.net (launchContents m' c) = Cert.KernelIdeal.Hand.knet m c := by
    intro c
    obtain ⟨h0, h1, h2, h3, h4, h5, h6, h7, h8, h9, h10⟩ := hargs c
    unfold Cert.ReferenceIdeal.Hand.net Cert.KernelIdeal.Hand.knet
    rw [Net.mk.injEq]
    refine ⟨?_, ?_, ?_, ?_, ?_, ?_, ?_, ?_, ?_, ?_, ?_⟩
    · funext b v f; exact congrFun h0 (ix3 b v f)
    · funext v u; exact congrFun h1 (ix2 v u)
    · funext v u; exact congrFun h2 (ix2 v u)
    · funext d f; exact congrFun h3 (ix2 d f)
    · funext d; exact congrFun h4 (ix1 d)
    · funext d k; exact congrFun h5 (ix2 d k)
    · funext d; exact congrFun h6 (ix1 d)
    · funext d k; exact congrFun h7 (ix2 d k)
    · funext d; exact congrFun h8 (ix1 d)
    · funext k; exact congrFun h9 (ix2 k 0)
    · funext k; exact congrFun h10 (ix1 k)
  have heq : ∀ c, (Cert.ReferenceIdeal.Hand.result (launchContents m' c) : FVec Ideal Cert.KernelIdeal.S2x4096x16 .f32)
      = Pipeline.afterTail₀ Cert.KernelIdeal.cfgs (Cert.KernelIdeal.Hand.dats m) 0 (Cert.KernelIdeal.Gen.V0 m)
        [Cert.KernelIdeal.Gen.hostOps1] c Cert.KernelIdeal.main_v42 := by
    intro c
    have hN := Cert.KernelIdeal.Hand.good m c hpre
    funext i
    obtain ⟨b, v, d, rfl⟩ : ∃ b v d, i = ix3 b v d := ⟨i 0, i 1, i 2, by funext a; fin_cases a <;> rfl⟩
    rw [Cert.ReferenceIdeal.Hand.result_apply _ ((hnet c).symm ▸ hN), hnet c]
    exact (Cert.KernelIdeal.Hand.result_apply m c hN b v d).symm
  refine ⟨fun c => Pipeline.afterTail₀ Cert.KernelIdeal.cfgs (Cert.KernelIdeal.Hand.dats m) 0 (Cert.KernelIdeal.Gen.V0 m)
        [Cert.KernelIdeal.Gen.hostOps1] c Cert.KernelIdeal.main_v42, ?_, ?_⟩
  · refine (θ_run _ _ _).mono (fun r h c => ⟨?_, Cert.KernelIdeal.Hand.Ends.args m h c⟩) (Cert.KernelIdeal.Hand.run_main m g)
    exact (h.1 c).2 Cert.KernelIdeal.main_v42 (Pipeline.mem_restRefs_of Cert.KernelIdeal.main_v42 (by decide) (by decide))
  · refine (θ_run _ _ _).mono (fun r h c => ⟨?_, (h c).2⟩) (Cert.ReferenceIdeal.Value.run m' g')
    exact (h c).1.trans (heq c)

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_graph_inputs
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_graph_inputs.Gen.facts,
    frame_kernel, frame_ideal, frame_ideal_pre, frame_reference, frame_reference_pre, trivial, same_result⟩

end Cert.Proof

end
